-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![32768, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)

variable [Facts]

def fn {F : FTy → Type} [FloatOps F] (main_arg0 : FVec F S2048x1024 .f32) : IVec S2048x1024 1 :=
  let main_cst : FVec F S_ .f32 := constant S_ .f32 0x7F800000#32
  let main_v0 : FVec F S2048x1024 .f32 := broadcastInDim S2048x1024 ![] bcast_S_S2048x1024 main_cst
  let main_v1 : IVec S2048x1024 1 := cmpf .olt main_arg0 main_v0
  let main_cst_0 : FVec F S_ .f32 := constant S_ .f32 0xFF800000#32
  let main_v2 : FVec F S2048x1024 .f32 := broadcastInDim S2048x1024 ![] bcast_S_S2048x1024 main_cst_0
  let main_v3 : IVec S2048x1024 1 := cmpf .ogt main_arg0 main_v2
  let main_v4 : IVec S2048x1024 1 := andi main_v1 main_v3
  main_v4
-- ==== Pre_finite_ReferenceIdeal.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)

variable [Facts]

def fn {F : FTy → Type} [FloatOps F] (main_arg0 : FVec F S32768x1024 .f32) : IVec S32768x1024 1 :=
  let main_cst : FVec F S_ .f32 := constant S_ .f32 0x7F800000#32
  let main_v0 : FVec F S32768x1024 .f32 := broadcastInDim S32768x1024 ![] bcast_S_S32768x1024 main_cst
  let main_v1 : IVec S32768x1024 1 := cmpf .olt main_arg0 main_v0
  let main_cst_0 : FVec F S_ .f32 := constant S_ .f32 0xFF800000#32
  let main_v2 : FVec F S32768x1024 .f32 := broadcastInDim S32768x1024 ![] bcast_S_S32768x1024 main_cst_0
  let main_v3 : IVec S32768x1024 1 := cmpf .ogt main_arg0 main_v2
  let main_v4 : IVec S32768x1024 1 := andi main_v1 main_v3
  main_v4
-- ==== Kernel.lean ====
abbrev S2048x1024 : Shape := ⟨2, ![2048, 1024]⟩
abbrev S1x1024 : Shape := ⟨2, ![1, 1024]⟩
abbrev S4x1024 : Shape := ⟨2, ![4, 1024]⟩
abbrev S4 : Shape := ⟨1, ![4]⟩
abbrev S1024 : Shape := ⟨1, ![1024]⟩
abbrev S_ : Shape := ⟨0, ![]⟩
abbrev S1 : Shape := ⟨1, ![1]⟩
abbrev S256x256 : Shape := ⟨2, ![256, 256]⟩
abbrev S256x1024 : Shape := ⟨2, ![256, 1024]⟩

abbrev nBuf : Space → Nat
  | .hbm => 2
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | .local _ .vmem, ⟨4, _⟩ => ⟨S4x1024, .f32⟩
  | .local _ .vmem, ⟨5, _⟩ => ⟨S4x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v17 : BitVec 32 := Scalar.subi v2 c1_i32_7
  let c0_i32 : BitVec 32 := 0#32
  let v18 : BitVec 1 := Scalar.cmpi .sge v17 c0_i32
  let v19 : BitVec 32 := Scalar.extui v18
  let c0_i32_8 : BitVec 32 := 0#32
  let v20 : BitVec 1 := Scalar.cmpi .ne v19 c0_i32_8
  v20

def k0_dev1 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_93 : BitVec 32 := 1#32
  let v169 : BitVec 32 := Scalar.subi v2 c1_i32_93
  let c1_i32_95 : BitVec 32 := 1#32
  let v170 : BitVec 32 := Scalar.muli v169 c1_i32_95
  let v171 : BitVec 32 := Scalar.addi c0_i32_96 v170
  v171.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v21 : BitVec 32 := Scalar.subi v2 c2_i32
  let c0_i32_9 : BitVec 32 := 0#32
  let v22 : BitVec 1 := Scalar.cmpi .sge v21 c0_i32_9
  let v23 : BitVec 32 := Scalar.extui v22
  let c0_i32_10 : BitVec 32 := 0#32
  let v24 : BitVec 1 := Scalar.cmpi .ne v23 c0_i32_10
  v24

def k0_dev2 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_93 : BitVec 32 := 2#32
  let v169 : BitVec 32 := Scalar.subi v2 c2_i32_93
  let c1_i32_95 : BitVec 32 := 1#32
  let v170 : BitVec 32 := Scalar.muli v169 c1_i32_95
  let v171 : BitVec 32 := Scalar.addi c0_i32_96 v170
  v171.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v25 : BitVec 32 := Scalar.subi v2 c4_i32
  let c0_i32_11 : BitVec 32 := 0#32
  let v26 : BitVec 1 := Scalar.cmpi .sge v25 c0_i32_11
  let v27 : BitVec 32 := Scalar.extui v26
  let c0_i32_12 : BitVec 32 := 0#32
  let v28 : BitVec 1 := Scalar.cmpi .ne v27 c0_i32_12
  v28

def k0_dev3 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_93 : BitVec 32 := 4#32
  let v169 : BitVec 32 := Scalar.subi v2 c4_i32_93
  let c1_i32_95 : BitVec 32 := 1#32
  let v170 : BitVec 32 := Scalar.muli v169 c1_i32_95
  let v171 : BitVec 32 := Scalar.addi c0_i32_96 v170
  v171.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v29 : BitVec 32 := Scalar.subi v2 c8_i32
  let c0_i32_13 : BitVec 32 := 0#32
  let v30 : BitVec 1 := Scalar.cmpi .sge v29 c0_i32_13
  let v31 : BitVec 32 := Scalar.extui v30
  let c0_i32_14 : BitVec 32 := 0#32
  let v32 : BitVec 1 := Scalar.cmpi .ne v31 c0_i32_14
  v32

def k0_dev4 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_93 : BitVec 32 := 8#32
  let v169 : BitVec 32 := Scalar.subi v2 c8_i32_93
  let c1_i32_95 : BitVec 32 := 1#32
  let v170 : BitVec 32 := Scalar.muli v169 c1_i32_95
  let v171 : BitVec 32 := Scalar.addi c0_i32_96 v170
  v171.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_31 : BitVec 32 := 1#32
  let v54 : BitVec 32 := Scalar.addi v2 c1_i32_31
  let c16_i32_32 : BitVec 32 := 16#32
  let v55 : BitVec 1 := Scalar.cmpi .slt v54 c16_i32_32
  let v56 : BitVec 32 := Scalar.extui v55
  let c0_i32_33 : BitVec 32 := 0#32
  let v57 : BitVec 1 := Scalar.cmpi .ne v56 c0_i32_33
  v57

def k0_dev5 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_93 : BitVec 32 := 1#32
  let v169 : BitVec 32 := Scalar.addi v2 c1_i32_93
  let c1_i32_96 : BitVec 32 := 1#32
  let v170 : BitVec 32 := Scalar.muli v169 c1_i32_96
  let v171 : BitVec 32 := Scalar.addi c0_i32_97 v170
  v171.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_39 : BitVec 32 := 2#32
  let v66 : BitVec 32 := Scalar.addi v2 c2_i32_39
  let c16_i32_40 : BitVec 32 := 16#32
  let v67 : BitVec 1 := Scalar.cmpi .slt v66 c16_i32_40
  let v68 : BitVec 32 := Scalar.extui v67
  let c0_i32_41 : BitVec 32 := 0#32
  let v69 : BitVec 1 := Scalar.cmpi .ne v68 c0_i32_41
  v69

def k0_dev6 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_93 : BitVec 32 := 2#32
  let v169 : BitVec 32 := Scalar.addi v2 c2_i32_93
  let c1_i32_96 : BitVec 32 := 1#32
  let v170 : BitVec 32 := Scalar.muli v169 c1_i32_96
  let v171 : BitVec 32 := Scalar.addi c0_i32_97 v170
  v171.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_47 : BitVec 32 := 4#32
  let v78 : BitVec 32 := Scalar.addi v2 c4_i32_47
  let c16_i32_48 : BitVec 32 := 16#32
  let v79 : BitVec 1 := Scalar.cmpi .slt v78 c16_i32_48
  let v80 : BitVec 32 := Scalar.extui v79
  let c0_i32_49 : BitVec 32 := 0#32
  let v81 : BitVec 1 := Scalar.cmpi .ne v80 c0_i32_49
  v81

def k0_dev7 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_93 : BitVec 32 := 4#32
  let v169 : BitVec 32 := Scalar.addi v2 c4_i32_93
  let c1_i32_96 : BitVec 32 := 1#32
  let v170 : BitVec 32 := Scalar.muli v169 c1_i32_96
  let v171 : BitVec 32 := Scalar.addi c0_i32_97 v170
  v171.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_55 : BitVec 32 := 8#32
  let v90 : BitVec 32 := Scalar.addi v2 c8_i32_55
  let c16_i32_56 : BitVec 32 := 16#32
  let v91 : BitVec 1 := Scalar.cmpi .slt v90 c16_i32_56
  let v92 : BitVec 32 := Scalar.extui v91
  let c0_i32_57 : BitVec 32 := 0#32
  let v93 : BitVec 1 := Scalar.cmpi .ne v92 c0_i32_57
  v93

def k0_dev8 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_93 : BitVec 32 := 8#32
  let v169 : BitVec 32 := Scalar.addi v2 c8_i32_93
  let c1_i32_95 : BitVec 32 := 1#32
  let v170 : BitVec 32 := Scalar.muli v169 c1_i32_95
  let v171 : BitVec 32 := Scalar.addi c0_i32_96 v170
  v171.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x1024 : Shape := ⟨2, ![32768, 1024]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S_, .f32⟩
  | .hbm, ⟨2, _⟩ => ⟨S_, .f32⟩
  | .hbm, ⟨3, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.KernelIdeal.Protocol.lean ====
/-
# The protocol of the cross-device scan

Sixteen devices. For each of the four distances `2 ^ r` (`r = 0, 1, 2, 3`) a device sends its running row to the device
`2 ^ r` above it, when there is one, and adds the row it gets from the device `2 ^ r` below it, when there is one.

Semaphores of a device `c`, who signals each and who waits:

* the barrier semaphore: for each distance, the device `2 ^ r` above signals one unit, which hands `c` that device's landing row `r`;
  `c` waits one unit for each distance at which it sends;
* the send semaphore `r`: `c`'s own copy at that distance credits it when the sending row has been read, and `c` waits for it at
  the end; the sending row comes back;
* the receive semaphore `r`: the copy of the device `2 ^ r` below credits it when the row has landed, and `c` waits for it before it
  adds; the landing row comes back holding that device's running row.

This file states the cells, the contents that each landing hands over, the schedule, what each device owes, and the levels.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the pipeline's rounds beside the scan's, whose duties are named by the distance -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state a run starts from: any memory, all counters zero, any generator registers. -/
def s₀ : MemSt nD τ sig (Elt F) := ⟨m, fun _ => 0, ρ⟩

/-! ## The neighbours at each distance -/

/-- Device `c` sends at distance `2 ^ r`: there is a device that far above it. -/
abbrev Up (r : Fin 4) (c : Dev nD) : Prop := c.val + 2 ^ r.val < 16
/-- Device `c` receives at distance `2 ^ r`: there is a device that far below it. -/
abbrev Dn (r : Fin 4) (c : Dev nD) : Prop := 2 ^ r.val ≤ c.val

set_option backward.proofsInPublic true in
/-- The device `2 ^ r` above, around the end. -/
def hi (r : Fin 4) (c : Dev nD) : Dev nD := ⟨(c.val + 2 ^ r.val) % 16, Nat.mod_lt _ (by decide)⟩
set_option backward.proofsInPublic true in
/-- The device `2 ^ r` below, around the end. -/
def lo (r : Fin 4) (c : Dev nD) : Dev nD := ⟨(c.val + (16 - 2 ^ r.val)) % 16, Nat.mod_lt _ (by decide)⟩

theorem lo_hi (r : Fin 4) (c : Dev nD) : lo r (hi r c) = c := by revert r c; decide
theorem hi_lo (r : Fin 4) (c : Dev nD) : hi r (lo r c) = c := by revert r c; decide
theorem dn_hi {r : Fin 4} {c : Dev nD} : Up r c → Dn r (hi r c) := by revert r c; decide
theorem up_lo {r : Fin 4} {c : Dev nD} : Dn r c → Up r (lo r c) := by revert r c; decide
theorem dn_hi_iff (r : Fin 4) (c : Dev nD) : Dn r (hi r c) ↔ Up r c := by revert r c; decide
theorem up_lo_iff (r : Fin 4) (c : Dev nD) : Up r (lo r c) ↔ Dn r c := by revert r c; decide

/-- Going up by `2 ^ r` around the end rearranges the devices. -/
def shift (r : Fin 4) : Dev nD ≃ Dev nD := ⟨hi r, lo r, lo_hi r, hi_lo r⟩

/-! ## The buffers and the cells -/

abbrev xM : Memref sig .tc .vmem S2048x1024 .f32 := Memref.whole cc0_stg0_0
abbrev oM : Memref sig .tc .vmem S2048x1024 .f32 := Memref.whole cc0_stg1_0
abbrev wM : Memref sig .tc .vmem S1x1024 .f32 := Memref.whole cc0_scratch0
abbrev cM : Memref sig .tc .vmem S1x1024 .f32 := Memref.whole cc0_scratch1
abbrev sM : Memref sig .tc .vmem S4x1024 .f32 := Memref.whole cc0_scratch2
abbrev rM : Memref sig .tc .vmem S4x1024 .f32 := Memref.whole cc0_scratch3

theorem inbRow (r : Fin 4) : ∀ a, (![r.val, 0] : Fin 2 → Nat) a + S1x1024.size a ≤ S4x1024.size a := by revert r; decide

/-- Row `r` of a four-row buffer. -/
abbrev rowR (r : Fin 4) : Rect S4x1024 := Rect.unit (s := S4x1024) ![r.val, 0] S1x1024.size (inbRow r)
abbrev sRow (r : Fin 4) : Memref sig .tc .vmem S1x1024 .f32 := sM.slice (rowR r) (fun _ => rfl)
abbrev rRow (r : Fin 4) : Memref sig .tc .vmem S1x1024 .f32 := rM.slice (rowR r) (fun _ => rfl)

abbrev barS : Sem sig := (SemArray.scalar (sig.barrier 0 rfl) : Sems sig S_).sem
set_option backward.proofsInPublic true in
def sendQ (r : Fin 4) : DmaSem sig := ⟨2 + r.val, by have := r.isLt; show _ < 10; omega⟩
set_option backward.proofsInPublic true in
def recvQ (r : Fin 4) : DmaSem sig := ⟨6 + r.val, by have := r.isLt; show _ < 10; omega⟩

abbrev barCell (c : Dev nD) : GSem nD τ sig := ((c : Thread nD τ), .reg barS)
abbrev sendCell (c : Dev nD) (r : Fin 4) : GSem nD τ sig := ((c : Thread nD τ), .dma (sendQ r))
abbrev recvCell (c : Dev nD) (r : Fin 4) : GSem nD τ sig := ((c : Thread nD τ), .dma (recvQ r))

/-- What one row's copy credits. -/
abbrev N : ℕ := (rRow 0).view.dmaCredit
theorem N_pos : 0 < N := View.dmaCredit_pos _ (by decide)
theorem credit_r (r : Fin 4) : (rRow r).view.dmaCredit = N := rfl
theorem credit_s (r : Fin 4) : (sRow r).view.dmaCredit = N := rfl

/-! ## Contents -/

/-- Device `c`'s block of `x`. -/
def xstg (c : Dev nD) : (cc0_stg0_0 : Ref sig .tc).ty.Contents (Elt F) :=
  (win0_0.blk (0 : Fin 1)).view.read (Elt F) ((s₀ m ρ).mem ((c : Thread nD τ).loc main_arg0))

/-- The sum of a device's own rows. -/
def own (c : Dev nD) : FVec F S1x1024 .f32 := k0_pay2 (xstg m ρ c)

/-- A device's running row before the exchange at distance `2 ^ k`. -/
def cur : ℕ → Dev nD → FVec F S1x1024 .f32
  | 0, c => k0_pay3 (own m ρ c)
  | k + 1, c => if h : k < 4 then
      (if Dn ⟨k, h⟩ c then k0_pay5 (cur k c) (k0_pay4 (cur k (lo ⟨k, h⟩ c))) else cur k c)
    else cur k c

/-- The row a device sends at distance `2 ^ r`. -/
def sent (r : Fin 4) (c : Dev nD) : FVec F S1x1024 .f32 := k0_pay4 (cur m ρ r.val c)

theorem cur_succ (r : Fin 4) (c : Dev nD) :
    cur m ρ (r.val + 1) c = if Dn r c then k0_pay5 (cur m ρ r.val c) (sent m ρ r (lo r c)) else cur m ρ r.val c := by
  show (if h : r.val < 4 then _ else _) = _
  rw [dif_pos r.isLt]; rfl

/-- Row `r` of a device's sending buffer. -/
def sPts (c : Dev nD) (r : Fin 4) (f : Buf (Elt F) ((sRow r).view.loc (c : Thread nD τ))) : sProp 𝕄 :=
  (sRow r).view.loc (c : Thread nD τ) ↦[(sRow r).view.set]{fullShare} f
/-- Row `r` of a device's landing buffer. -/
def rPts (c : Dev nD) (r : Fin 4) (f : Buf (Elt F) ((rRow r).view.loc (c : Thread nD τ))) : sProp 𝕄 :=
  (rRow r).view.loc (c : Thread nD τ) ↦[(rRow r).view.set]{fullShare} f
/-- Row `r` of the landing buffer holding `v`. -/
def rHolds (c : Dev nD) (r : Fin 4) (v : FVec F S1x1024 .f32) : sProp 𝕄 :=
  iprop(∃ f, ⌜(rRow r).view.read (Elt F) f = v⌝ ∗ rPts c r f)

omit [FloatOps F] in
instance sPts_storable (c : Dev nD) (r : Fin 4) (f) : BI.Storable (upEmb : UEmb _ 𝕄) (sPts (F := F) c r f) := by unfold sPts; infer_instance
omit [FloatOps F] in
instance rPts_storable (c : Dev nD) (r : Fin 4) (f) : BI.Storable (upEmb : UEmb _ 𝕄) (rPts (F := F) c r f) := by unfold rPts; infer_instance
instance rHolds_storable (c : Dev nD) (r : Fin 4) (v) : BI.Storable (upEmb : UEmb _ 𝕄) (rHolds (F := F) c r v) := by unfold rHolds; infer_instance

/-! ## The schedule -/

/-- What the signal from the device `2 ^ r` above hands `c`: that device's landing row, and its receive cell at round 0. -/
def barPay (c : Dev nD) (r : Fin 4) : sProp 𝕄 := iprop((∃ f, rPts (hi r c) r f) ∗ reached ER (recvCell (hi r c) r) 0)
/-- What a landing hands the receiver: the landing row holding the row sent. -/
def recvPay (c : Dev nD) (r : Fin 4) : sProp 𝕄 := rHolds c r (sent m ρ r (lo r c))
/-- What a finished sending gives back: the sending row. -/
def sendPay (c : Dev nD) (r : Fin 4) : sProp 𝕄 := iprop(∃ f, sPts c r f)

instance barPay_storable (c : Dev nD) (r : Fin 4) : BI.Storable (upEmb : UEmb _ 𝕄) (barPay (F := F) c r) := by unfold barPay; infer_instance
instance recvPay_storable (c : Dev nD) (r : Fin 4) : BI.Storable (upEmb : UEmb _ 𝕄) (recvPay (F := F) m ρ c r) := by unfold recvPay; infer_instance
instance sendPay_storable (c : Dev nD) (r : Fin 4) : BI.Storable (upEmb : UEmb _ 𝕄) (sendPay (F := F) c r) := by unfold sendPay; infer_instance

/-- What a copy semaphore is for: `(false, r)` a sending at distance `2 ^ r`, `(true, r)` a landing. -/
def role (q : DmaSem sig) : Option (Bool × Fin 4) :=
  if h : 2 ≤ q.val ∧ q.val < 6 then some (false, ⟨q.val - 2, by omega⟩)
  else if h : 6 ≤ q.val ∧ q.val < 10 then some (true, ⟨q.val - 6, by omega⟩) else none

theorem role_send (r : Fin 4) : role (sendQ r) = some (false, r) := by revert r; decide
theorem role_recv (r : Fin 4) : role (recvQ r) = some (true, r) := by revert r; decide

def dutiesRole (c : Dev nD) : Option (Bool × Fin 4) → Finset (Fin 4)
  | some (false, r) => if Up r c then {0} else ∅
  | some (true, r) => if Dn r c then {0} else ∅
  | none => ∅
/-- The duties of a cell in its one round. -/
def dutiesOf (c : Dev nD) : SemLoc sig → Finset (Fin 4)
  | .reg s => if s = barS then Finset.univ.filter fun r => Up r c else ∅
  | .dma q => dutiesRole c (role q)
def payRole (c : Dev nD) : Option (Bool × Fin 4) → sProp 𝕄
  | some (false, r) => sendPay c r
  | some (true, r) => recvPay m ρ c r
  | none => iprop(emp)
/-- What a duty hands the cell's owner. -/
def payOf (c : Dev nD) (d : Fin 4) : SemLoc sig → sProp 𝕄
  | .reg _ => barPay c d
  | .dma q => payRole m ρ c (role q)
def amountAt : SemLoc sig → ℕ
  | .reg _ => 1
  | .dma _ => N

instance payRole_storable (c : Dev nD) (o : Option (Bool × Fin 4)) : BI.Storable (upEmb : UEmb _ 𝕄) (payRole (F := F) m ρ c o) := by
  rcases o with _ | ⟨_ | _, r⟩
  · show BI.Storable upEmb iprop(emp); infer_instance
  · show BI.Storable upEmb (sendPay c r); infer_instance
  · show BI.Storable upEmb (recvPay m ρ c r); infer_instance
instance payOf_storable (c : Dev nD) (d : Fin 4) (sm : SemLoc sig) : BI.Storable (upEmb : UEmb _ 𝕄) (payOf (F := F) m ρ c d sm) := by
  cases sm with
  | reg s => show BI.Storable upEmb (barPay c d); infer_instance
  | dma q => show BI.Storable upEmb (payRole m ρ c (role q)); infer_instance

/-- One round, round 0, on every TensorCore's cells. -/
def Rd : Rounds.Schedule (GSem nD τ sig) (Fin 4) 𝕄 where
  duties g r := if r = 0 ∧ g.1.2 = .tc then dutiesOf g.1.1 g.2 else ∅
  unitless _ := False
  amount g _ _ := amountAt g.2
  payload g _ d := payOf m ρ g.1.1 d g.2
  amount_pos g _ _ _ := by
    rcases g with ⟨_, s | q⟩
    · exact Nat.one_pos
    · exact N_pos

instance Rd_payload_storable (g : GSem nD τ sig) (r : ℕ) (d : Fin 4) :
    BI.Storable (upEmb : UEmb _ 𝕄) ((Rd (F := F) m ρ).payload g r d) := payOf_storable m ρ g.1.1 d g.2

section Sched
variable (c : Dev nD) (r : Fin 4)

theorem duties_bar : (Rd (F := F) m ρ).duties (barCell c) 0 = Finset.univ.filter fun r => Up r c := by
  show (if 0 = 0 ∧ (c : Thread nD τ).2 = .tc then dutiesOf c (.reg barS) else ∅) = _
  rw [if_pos ⟨rfl, rfl⟩]
  show (if barS = barS then Finset.univ.filter fun r => Up r c else ∅) = _
  exact if_pos rfl
theorem duties_send : (Rd (F := F) m ρ).duties (sendCell c r) 0 = if Up r c then {0} else ∅ := by
  show (if 0 = 0 ∧ (c : Thread nD τ).2 = .tc then dutiesRole c (role (sendQ r)) else ∅) = _
  rw [if_pos ⟨rfl, rfl⟩, role_send]; rfl
theorem duties_recv : (Rd (F := F) m ρ).duties (recvCell c r) 0 = if Dn r c then {0} else ∅ := by
  show (if 0 = 0 ∧ (c : Thread nD τ).2 = .tc then dutiesRole c (role (recvQ r)) else ∅) = _
  rw [if_pos ⟨rfl, rfl⟩, role_recv]; rfl
theorem duties_later (g : GSem nD τ sig) (k : ℕ) (hk : 1 ≤ k) : (Rd (F := F) m ρ).duties g k = ∅ :=
  if_neg fun h => by omega

theorem expect_bar : (Rd (F := F) m ρ).expect (barCell c) 0 = (Finset.univ.filter fun r => Up r c).card := by
  unfold Schedule.expect Schedule.amountOf
  rw [duties_bar]
  exact (Finset.sum_const _).trans (by rw [smul_eq_mul]; exact Nat.mul_one _)
theorem expect_send (h : Up r c) : (Rd (F := F) m ρ).expect (sendCell c r) 0 = N := by
  unfold Schedule.expect Schedule.amountOf; rw [duties_send, if_pos h, Finset.sum_singleton]; rfl
theorem expect_recv (h : Dn r c) : (Rd (F := F) m ρ).expect (recvCell c r) 0 = N := by
  unfold Schedule.expect Schedule.amountOf; rw [duties_recv, if_pos h, Finset.sum_singleton]; rfl

theorem payload_bar : (Rd (F := F) m ρ).payload (barCell c) 0 r = barPay c r := rfl
theorem payload_send (d : Fin 4) : (Rd (F := F) m ρ).payload (sendCell c r) 0 d = sendPay c r := by
  show payRole m ρ c (role (sendQ r)) = _; rw [role_send]; rfl
theorem payload_recv (d : Fin 4) : (Rd (F := F) m ρ).payload (recvCell c r) 0 d = recvPay m ρ c r := by
  show payRole m ρ c (role (recvQ r)) = _; rw [role_recv]; rfl

theorem rest_send (h : Up r c) : bigSep ((Rd (F := F) m ρ).duties (sendCell c r) 0 \ ∅) (fun d => (Rd (F := F) m ρ).payload (sendCell c r) 0 d) = sendPay c r := by
  rw [Finset.sdiff_empty, duties_send, if_pos h, bigSep_singleton, payload_send]
theorem rest_recv (h : Dn r c) : bigSep ((Rd (F := F) m ρ).duties (recvCell c r) 0 \ ∅) (fun d => (Rd (F := F) m ρ).payload (recvCell c r) 0 d) = recvPay m ρ c r := by
  rw [Finset.sdiff_empty, duties_recv, if_pos h, bigSep_singleton, payload_recv]

end Sched

/-! ## What a device owes -/

/-- The signal a device owes the device `2 ^ r` below it. -/
def Bo (r : Fin 4) (c : Dev nD) : CellTallies nD τ sig Unit := if Dn r c then tallyAt (barCell (lo r c)) () 1 else 0
/-- The landing a device owes the device `2 ^ r` above it. -/
def Ro (r : Fin 4) (c : Dev nD) : CellTallies nD τ sig Unit := if Up r c then tallyAt (recvCell (hi r c) r) () N else 0
/-- The unit a device waits for from the device `2 ^ r` above it. -/
def Bw (r : Fin 4) (c : Dev nD) : CellTallies nD τ sig Unit := if Up r c then tallyAt (barCell c) () 1 else 0
/-- The landing a device waits for from the device `2 ^ r` below it. -/
def Rw (r : Fin 4) (c : Dev nD) : CellTallies nD τ sig Unit := if Dn r c then tallyAt (recvCell c r) () N else 0

/-- The landings owed from distance `2 ^ k` on. -/
def oR (k : ℕ) (c : Dev nD) : CellTallies nD τ sig Unit :=
  match k with
  | 0 => 0 + Ro 3 c + Ro 2 c + Ro 1 c + Ro 0 c
  | 1 => 0 + Ro 3 c + Ro 2 c + Ro 1 c
  | 2 => 0 + Ro 3 c + Ro 2 c
  | 3 => 0 + Ro 3 c
  | _ => 0
/-- The signals owed from distance `2 ^ k` on, over every landing. -/
def oB (k : ℕ) (c : Dev nD) : CellTallies nD τ sig Unit :=
  match k with
  | 0 => oR 0 c + Bo 3 c + Bo 2 c + Bo 1 c + Bo 0 c
  | 1 => oR 0 c + Bo 3 c + Bo 2 c + Bo 1 c
  | 2 => oR 0 c + Bo 3 c + Bo 2 c
  | 3 => oR 0 c + Bo 3 c
  | _ => oR 0 c
/-- Everything a device owes at its start. -/
def O₀ (c : Dev nD) : CellTallies nD τ sig Unit := oB 0 c

theorem oR_succ (r : Fin 4) (c : Dev nD) : oR r.val c = oR (r.val + 1) c + Ro r c := by
  match r with
  | 0 => rfl
  | 1 => rfl
  | 2 => rfl
  | 3 => rfl
theorem oB_succ (r : Fin 4) (c : Dev nD) : oB r.val c = oB (r.val + 1) c + Bo r c := by
  match r with
  | 0 => rfl
  | 1 => rfl
  | 2 => rfl
  | 3 => rfl
theorem oB_four (c : Dev nD) : oB 4 c = oR 0 c := rfl
theorem oR_four (c : Dev nD) : oR 4 c = 0 := rfl

/-! ## The levels: barrier cells at 1, the landing cell of distance `2 ^ r` at `2 + r`, all else at 0 -/

def L (g : GSem nD τ sig) : Finset Unit := if g.1.2 = .tc then {()} else ∅
def lvRole : Option (Bool × Fin 4) → ℕ
  | some (true, r) => 2 + r.val
  | some (false, _) => 0
  | none => 0
def lvOf : SemLoc sig → ℕ
  | .reg s => if s = barS then 1 else 0
  | .dma q => lvRole (role q)
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by
  show (if barS = barS then 1 else 0) = 1; exact if_pos rfl
theorem lv_recv (c : Dev nD) (r : Fin 4) : lv (recvCell c r) () = 2 + r.val := by
  show lvRole (role (recvQ r)) = _; rw [role_recv]; rfl
theorem lv_send (c : Dev nD) (r : Fin 4) : lv (sendCell c r) () = 0 := by
  show lvRole (role (sendQ r)) = _; rw [role_send]; rfl

/-- Everything `O` owes lies above level `n` on TensorCores' cells. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0
theorem above_tally {n k : ℕ} {c : Dev nD} {sm : SemLoc sig} (h : n < lv ((c : Thread nD τ), sm) ()) : Above n (tallyAt ((c : Thread nD τ), sm) () k) := by
  intro g u hg
  rw [tallyAt_apply] at hg
  by_cases he : g = ((c : Thread nD τ), sm) ∧ u = ()
  · rw [he.1]; exact ⟨rfl, h⟩
  · rw [if_neg he] at hg; exact absurd hg (Nat.lt_irrefl 0)
theorem above_Ro {n : ℕ} (r : Fin 4) (c : Dev nD) (h : n < 2 + r.val) : Above n (Ro r c) := by
  unfold Ro; split
  · exact above_tally (by rw [lv_recv]; exact h)
  · exact above_zero n
theorem above_Bo {n : ℕ} (r : Fin 4) (c : Dev nD) (h : n < 1) : Above n (Bo r c) := by
  unfold Bo; split
  · exact above_tally (by rw [lv_bar]; exact h)
  · exact above_zero n
theorem above_oR {n : ℕ} (k : ℕ) (c : Dev nD) (h : n < 2 + k) : Above n (oR k c) := by
  unfold oR
  split
  · exact above_add (above_add (above_add (above_add (above_zero n) (above_Ro 3 c (by omega))) (above_Ro 2 c (by omega)))
      (above_Ro 1 c (by omega))) (above_Ro 0 c h)
  · exact above_add (above_add (above_add (above_zero n) (above_Ro 3 c (by omega))) (above_Ro 2 c (by omega))) (above_Ro 1 c h)
  · exact above_add (above_add (above_zero n) (above_Ro 3 c (by omega))) (above_Ro 2 c h)
  · exact above_add (above_zero n) (above_Ro 3 c h)
  · exact above_zero n
theorem above_O₀ (c : Dev nD) : Above 0 (O₀ c) := by
  have h : ∀ r, Above 0 (Bo r c) := fun r => above_Bo r c Nat.one_pos
  exact above_add (above_add (above_add (above_add (above_oR 0 c (by omega)) (h 3)) (h 2)) (h 1)) (h 0)

omit [FloatOps F] in
/-- A device may wait on a cell whose level all it owes lies above. -/
theorem mayWait_above (c : Dev nD) (sm : SemLoc sig) {O : CellTallies nD τ sig Unit} (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by
      have h1 := (h g u hg).1
      unfold L; rw [if_pos h1]; exact Finset.mem_singleton_self _)
    (fun p hp => by rw [Finset.mem_singleton.mp hp])
    (fun g u hg => (h g u hg).2)

omit [FloatOps F] in
theorem mayWait_bar (c : Dev nD) : (levAts L lv : sProp 𝕄) ⊢ MayWait (c : Thread nD τ) (.reg barS) () (oR 0 c) :=
  mayWait_above c _ (by rw [lv_bar]; exact above_oR 0 c (by omega))
omit [FloatOps F] in
theorem mayWait_recv (c : Dev nD) (r : Fin 4) : (levAts L lv : sProp 𝕄) ⊢ MayWait (c : Thread nD τ) (.dma (recvQ r)) () (oR (r.val + 1) c) :=
  mayWait_above c _ (by rw [lv_recv]; exact above_oR _ c (by omega))
omit [FloatOps F] in
theorem mayWait_send (c : Dev nD) (r : Fin 4) : (levAts L lv : sProp 𝕄) ⊢ MayWait (c : Thread nD τ) (.dma (sendQ r)) () 0 :=
  mayWait_above c _ (above_zero _)

end Cert.KernelIdeal.Scan
end
-- ==== Proof.KernelIdeal.Steps.lean ====
/-
# The statements of the scan's body

One lemma for each kind of statement of the body, at any distance: the guarded signal, the guarded wait for a unit, the filling of a
sending row, the guarded copy, the guarded wait for a landing with its addition, and the guarded wait for a sending. A guard that
is false leaves its resources where they were, so each lemma covers both cases.
-/
module

public import proofs.«01_k».proof.Proof.KernelIdeal.Protocol

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- What names a cell of a device: `none` the barrier, `some (false, r)` a sending, `some (true, r)` a landing. -/
abbrev CellIx : Type := Option (Bool × Fin 4)

variable (K : Dev nD × CellIx → ℕ)

/-! ## Guarded resources -/

/-- What a device owes, whatever it has waited for. -/
def owing (c : Dev nD) (O : CellTallies nD τ sig Unit) : sProp 𝕄 := iprop(∃ W, owes (c : Thread nD τ) O W)
/-- The landing row a device has kept: it is handed away when the device receives at that distance. -/
def kept (c : Dev nD) (r : Fin 4) : sProp 𝕄 := if Dn r c then iprop(emp) else iprop(∃ f, rPts c r f)
/-- What the barrier handed a device for its sending. -/
def granted (c : Dev nD) (r : Fin 4) : sProp 𝕄 := if Up r c then barPay c r else iprop(emp)
/-- Row `r` of the sending buffer holding `v`. -/
def sHolds (c : Dev nD) (r : Fin 4) (v : FVec F S1x1024 .f32) : sProp 𝕄 :=
  iprop(∃ f, ⌜(sRow r).view.read (Elt F) f = v⌝ ∗ sPts c r f)
/-- After the copy: its credit, or the row when there was no copy. -/
def flying (c : Dev nD) (r : Fin 4) : sProp 𝕄 :=
  if Up r c then cred (tallyAt (sendCell c r) () N) else iprop(∃ f, sPts c r f)
/-- The running row. -/
def curPts (c : Dev nD) (v : FVec F S1x1024 .f32) : sProp 𝕄 := ((c : Thread nD τ).loc cc0_scratch1) ↦{fullShare} v

/-! ## The signal -/

theorem step_signal (c : Dev nD) (r : Fin 4) {b : Prop} [Decidable b] (hb : b ↔ Dn r c) (n : b → Dev nD) (hn : ∀ h, n h = lo r c)
    {α : Type} (k : Prog (TpuEff nD τ sig (Elt F) Λ₀ .tc) α) (Q : α → sProp 𝕄) :
    iprop(cellInv ER (Rd m ρ) (K (lo r c, none)) (barCell (lo r c)) ∗ reached ER (barCell (lo r c)) 0 ∗ reached ER (recvCell c r) 0
        ∗ dutyTok ER (barCell (lo r c)) 0 r ∗ owing c (oB r.val c) ∗ (∃ f, rPts c r f))
      ⊢ iprop(((owing c (oB (r.val + 1) c) ∗ kept c r) -∗ wp frame (wpE (defs₀ (F := F)) 𝒱₀ (c : Thread nD τ) none) Set.univ k Q)
        -∗ wp frame (wpE (defs₀ (F := F)) 𝒱₀ (c : Thread nD τ) none) Set.univ
          (dite b (fun h => .op (.semSignal (n h, .tc) barS (1#32).toInt) fun _ => k) (fun _ => k)) Q) := by
  unfold kept owing
  iintro ⟨#HI, #Hr, #Hr', Ht, ⟨%W, HO⟩, ⟨%f, Hf⟩⟩ Hk
  by_cases h : Dn r c
  · rw [dif_pos (hb.mpr h), if_pos h, hn]
    iapply (Rounds.wp_signal 𝒱₀ ER (Rd m ρ) (c : Thread nD τ) none (dst := (lo r c : Thread nD τ)) (κ := K (lo r c, none)) (r := 0)
        (O₀ := oB r.val c) (d := r) (k' := 1) (by rw [duties_bar]; exact Finset.mem_filter.mpr ⟨Finset.mem_univ _, up_lo h⟩) rfl () (oB (r.val + 1) c)
        (by rw [oB_succ]; unfold Bo; rw [if_pos h]) (W := W))
      $$ [HO Ht Hf]
    · isplitr; · iexact HI
      isplitl [HO]; · iexact HO
      isplitl [Ht]; · iexact Ht
      isplitl [Hf]
      · rw [payload_bar]; unfold barPay; rw [hi_lo]
        isplitl [Hf]; · iexists f; iexact Hf
        iexact Hr'
      iexact Hr
    iintro HO
    iapply Hk
    isplitl [HO]; · iexists W; iexact HO
    iempintro
  · rw [dif_neg (fun hh => h (hb.mp hh)), if_neg h]
    iapply Hk
    isplitl [HO]
    · iexists W; rw [oB_succ]; unfold Bo; rw [if_neg h, add_zero]; iexact HO
    iexists f; iexact Hf

/-! ## The barrier's units -/

/-- How many units a device waits for at the distances below `2 ^ j`. -/
def nb (j : ℕ) (c : Dev nD) : ℕ := (Finset.univ.filter fun r : Fin 4 => r.val < j ∧ Up r c).card
theorem nb_zero (c : Dev nD) : nb 0 c = 0 := by revert c; decide
theorem nb_succ_up (r : Fin 4) (c : Dev nD) : Up r c → nb (r.val + 1) c = nb r.val c + 1 := by revert r c; decide
theorem nb_succ_not (r : Fin 4) (c : Dev nD) : ¬ Up r c → nb (r.val + 1) c = nb r.val c := by revert r c; decide
theorem nb_four (c : Dev nD) : nb 4 c = (Finset.univ.filter fun r => Up r c).card := by revert c; decide

/-- The distances at which a device sends. -/
def ups (c : Dev nD) : Finset (Fin 4) := Finset.univ.filter fun r => Up r c

/-- A device's barrier cell with the units of the distances below `2 ^ j` taken: some of the signals' payloads have come, and those that
    have not still owe a unit each. -/
def barAt (c : Dev nD) (j : ℕ) : sProp 𝕄 :=
  iprop(∃ S : Finset (Fin 4), ⌜S ⊆ ups c ∧ nb j c + (ups c \ S).card ≤ (ups c).card⌝ ∗ atPos ER (barCell c) 0 S (nb j c) ∗ bigSep S (fun d => barPay c d))

theorem barAt_zero (c : Dev nD) : (atPos ER (barCell c) 0 ∅ 0 : sProp 𝕄) ⊢ barAt c 0 := by
  unfold barAt
  iintro H
  iexists ∅
  isplitr
  · ipureintro; refine ⟨Finset.empty_subset _, ?_⟩; rw [nb_zero, Finset.sdiff_empty, Nat.zero_add]
  rw [nb_zero]
  isplitl; · iexact H
  rw [bigSep_empty]; iempintro

theorem step_unit (c : Dev nD) (r : Fin 4) {b : Prop} [Decidable b] (hb : b ↔ Up r c)
    {α : Type} (k : Prog (TpuEff nD τ sig (Elt F) Λ₀ .tc) α) (Q : α → sProp 𝕄) :
    iprop(cellInv ER (Rd m ρ) (K (c, none)) (barCell c) ∗ levAts L lv ∗ cred (Bw r c) ∗ owing c (oR 0 c) ∗ barAt c r.val)
      ⊢ iprop(((owing c (oR 0 c) ∗ barAt c (r.val + 1)) -∗ wp frame (wpE (defs₀ (F := F)) 𝒱₀ (c : Thread nD τ) none) Set.univ k Q)
        -∗ wp frame (wpE (defs₀ (F := F)) 𝒱₀ (c : Thread nD τ) none) Set.univ
          (dite b (fun _ => .op (.semWait barS (1#32).toInt) fun _ => k) (fun _ => k)) Q) := by
  unfold owing
  iintro ⟨#HI, #Hlev, Hc, ⟨%W, HO⟩, Hat⟩ Hk
  by_cases h : Up r c
  · rw [dif_pos (hb.mpr h)]
    unfold barAt
    icases Hat with ⟨%S, %hS, Hat, Hp⟩
    rw [show (Bw r c : CellTallies nD τ sig Unit) = tallyAt (barCell c) () 1 from if_pos h]
    iapply (Rounds.wp_wait 𝒱₀ ER (Rd m ρ) (c : Thread nD τ) none (κ := K (c, none)) (k' := 1) (sm := .reg barS)
        (wpE_semWait_eq 𝒱₀ (c : Thread nD τ) none Set.univ) (Set.mem_univ _) (cr := Finsupp.single () 1) {(SemLoc.reg barS, ())}
        (O := oR 0 c) (W := W) (R := 0) (m := nb r.val c) (T := S) (Util.total_single _ _) (image_single_subset (SemLoc.reg barS) () 1)) $$ [Hc HO Hat]
    · isplitr; · iexact HI
      isplitl [Hc]; · iexact Hc
      isplitl [HO]; · iexact HO
      isplitr; · iapply (mayWait_bar c); iexact Hlev
      iexact Hat
    iintro %S' ⟨%hS', HO, Hat, Hp'⟩
    iapply Hk
    isplitl [HO]; · iexists _; iexact HO
    iexists S'
    rw [duties_bar, expect_bar] at hS'
    isplitr
    · ipureintro
      refine ⟨hS'.2.1, ?_⟩
      rw [nb_succ_up r c h]; exact hS'.2.2
    rw [nb_succ_up r c h]
    isplitl [Hat]; · iexact Hat
    have hj : iprop(bigSep S (fun d => barPay (F := F) c d) ∗ bigSep (S' \ S) (fun d => barPay c d)) ⊢ bigSep S' (fun d => barPay c d) :=
      Entails.of_eq (bigSep_sdiff_split hS'.1).symm
    iapply hj
    isplitl [Hp]; · iexact Hp
    iexact Hp'
  · rw [dif_neg (fun hh => h (hb.mp hh))]
    iapply Hk
    isplitl [HO]; · iexists W; iexact HO
    unfold barAt; rw [nb_succ_not r c h]; iexact Hat

/-- Every unit taken: every payload has come, and the barrier cell closes with its counter at zero. -/
theorem barAt_close (c : Dev nD) :
    iprop(cellInv ER (Rd (F := F) m ρ) (K (c, none)) (barCell c) ∗ barAt c 4)
      ⊢ iprop(|={Set.univ}=> (semVal (barCell c) 0 ∗ bigSep Finset.univ (fun r => granted c r))) := by
  unfold barAt
  iintro ⟨#HI, ⟨%S, %hS, Hat, Hp⟩⟩
  have hc : (ups c \ S).card = 0 := by
    have h := hS.2
    rw [nb_four] at h
    have : (ups c).card = (Finset.univ.filter fun r => Up r c).card := rfl
    omega
  have hSu : S = ups c := Finset.Subset.antisymm hS.1 (Finset.sdiff_eq_empty_iff_subset.mp (Finset.card_eq_zero.mp hc))
  subst hSu
  imod (Rounds.fupd_skip ER (Rd m ρ) (g := barCell c) (κ := K (c, none)) (R := 0) (m := nb 4 c) (T := ups c) (by rw [duties_bar]; exact Finset.Subset.refl _)
    (by rw [expect_bar, nb_four]) (Set.mem_univ _)) $$ [Hat] with ⟨Hat, -⟩
  · isplitr; · iexact HI
    iexact Hat
  imod (Rounds.cell_close ER (Rd m ρ) (Set.mem_univ (K (c, none))) (fun h => h) (R := 0 + 1) (fun k hk => duties_later m ρ (barCell c) k hk)) $$ [Hat] with Hz
  · isplitr; · iexact HI
    iexact Hat
  imodintro
  isplitl [Hz]; · iexact Hz
  iapply (Entails.of_eq (bigSep_filter Finset.univ (fun r => Up r c) (fun r => barPay (F := F) c r)))
  iexact Hp

/-! ## The sending row filled -/

abbrev r1 : Rect S1x1024 := Rect.unit (s := S1x1024) ![0, 0] S1x1024.size inb_S1x1024_S1x1024_0_0

theorem hz2 : (![0, 0] : Fin 2 → Nat) = fun _ => 0 := funext fun a => by fin_cases a <;> rfl
theorem read_cur (v : FVec F S1x1024 .f32) : (cM : Memref sig .tc .vmem S1x1024 .f32).view.readAt (Elt F) r1.toLoadRect v = v :=
  Memref.readAt_unit_zero (Elt F) cc0_scratch1 hz2 _ v
theorem write_cur (f w : FVec F S1x1024 .f32) :
    ((cM : Memref sig .tc .vmem S1x1024 .f32).access r1 : View sig .tc _ _ _).write (Elt F) f w Finset.univ = w :=
  Memref.write_access_unit_zero_univ (Elt F) cc0_scratch1 hz2 _ f w

theorem step_fill (c : Dev nD) (r : Fin 4) (pay : Vec F S1x1024 .f32 → FVec F S1x1024 .f32) (hpay : pay = k0_pay4)
    {hl₁ : (cM : Memref sig .tc .vmem S1x1024 .f32).view.LoadsAt r1.toLoadRect} {hl₂ : (sM : Memref sig .tc .vmem S4x1024 .f32).view.LoadsAt (rowR r).toLoadRect}
    {hs : ((sM : Memref sig .tc .vmem S4x1024 .f32).access (rowR r)).Stores Finset.univ} {hm : Finset.univ = Finset.univ ∨ ∀ a, (rowR r).stride a = 1}
    {α : Type} (k : Prog (TpuEff nD τ sig (Elt F) Λ₀ .tc) α) (Q : α → sProp 𝕄) :
    iprop(curPts c (cur m ρ r.val c) ∗ (∃ f, sPts c r f))
      ⊢ iprop(((curPts c (cur m ρ r.val c) ∗ sHolds c r (sent m ρ r c)) -∗ wp frame (wpE (defs₀ (F := F)) 𝒱₀ (c : Thread nD τ) none) Set.univ k Q)
        -∗ wp frame (wpE (defs₀ (F := F)) 𝒱₀ (c : Thread nD τ) none) Set.univ
          (.op (.load cM r1.toLoadRect hl₁) fun v => .op (.load sM (rowR r).toLoadRect hl₂) fun _ =>
            .op (.store sM (rowR r) (pay v) Finset.univ hs hm) fun _ => k) Q) := by
  subst hpay
  unfold curPts sPts
  iintro ⟨Hc, ⟨%f, Hf⟩⟩ Hk
  iapply (wp_load 𝒱₀ (c : Thread nD τ) none Set.univ (m := cM) (Finset.subset_univ _)) $$ Hc; iintro Hc
  rw [read_cur]
  iapply (wp_load_rect 𝒱₀ (c : Thread nD τ) none Set.univ (m := sM) (r := rowR r) (Finset.Subset.refl _)) $$ Hf; iintro Hf
  iapply (wp_store 𝒱₀ (c : Thread nD τ) none Set.univ (m := sM) (r := rowR r) (Mk := Finset.univ) (S := (sRow r).view.set) (Finset.Subset.refl _)) $$ Hf; iintro Hf
  iapply Hk
  isplitl [Hc]; · iexact Hc
  unfold sHolds sPts
  iexists _
  isplitr
  rotate_left
  · iexact Hf
  · ipureintro
    exact View.read_write_univ _ _

/-! ## The copy -/

theorem step_send (c : Dev nD) (r : Fin 4) {b : Prop} [Decidable b] (hb : b ↔ Up r c) (n : b → Dev nD) (hn : ∀ h, n h = hi r c)
    {hsc : ∀ h, (rRow r : Memref sig (Dev.tc (n h) : Thread nD τ).2.kind .vmem S1x1024 .f32).view.ref.isScScratch = false}
    {hsrc : (sRow r).view.WordExact} {hdst : (rRow r).view.WordExact}
    {hsem : ∀ h, DmaTarget.Typed .vmem (.dma (recvQ r)) (.remote (Dev.tc (n h) : Thread nD τ) (rRow r) (.dma (sendQ r)) (hsc h))}
    {α : Type} (k : Prog (TpuEff nD τ sig (Elt F) Λ₀ .tc) α) (Q : α → sProp 𝕄) :
    iprop(cellInv ER (Rd m ρ) (K (c, some (false, r))) (sendCell c r) ∗ cellInv ER (Rd m ρ) (K (hi r c, some (true, r))) (recvCell (hi r c) r)
        ∗ reached ER (sendCell c r) 0
        ∗ dutyTok ER (sendCell c r) 0 0 ∗ dutyTok ER (recvCell (hi r c) r) 0 0
        ∗ owing c (oR r.val c) ∗ granted c r ∗ sHolds c r (sent m ρ r c))
      ⊢ iprop(((owing c (oR (r.val + 1) c) ∗ flying c r) -∗ wp frame (wpE (defs₀ (F := F)) 𝒱₀ (c : Thread nD τ) none) Set.univ k Q)
        -∗ wp frame (wpE (defs₀ (F := F)) 𝒱₀ (c : Thread nD τ) none) Set.univ
          (dite b (fun h => .op (.enqueueDma (sRow r) (.remote (Dev.tc (n h) : Thread nD τ) (rRow r) (.dma (sendQ r)) (hsc h)) (.dma (recvQ r)) hsrc hdst (hsem h)) fun _ => k)
            (fun _ => k)) Q) := by
  by_cases h : Up r c
  · rw [show (granted c r : sProp 𝕄) = barPay c r from if_pos h, show (flying c r : sProp 𝕄) = cred (tallyAt (sendCell c r) () N) from if_pos h]
    have hb' := hb.mpr h
    rw [dif_pos hb']
    generalize hsc hb' = hsc', hsem hb' = hsem'
    revert hsc' hsem'
    rw [hn hb']
    intro hsc' hsem'
    unfold owing sHolds barPay
    iintro ⟨#HIs, #HIr, #Hrs, Hts, Htr, ⟨%W, HO⟩, ⟨⟨%fd, Hd⟩, #Hrr⟩, ⟨%fs, %hfs, Hf⟩⟩ Hk
    unfold sPts rPts
    iapply (Rounds.wp_send_pointsTo 𝒱₀ ER (Rd m ρ) (c : Thread nD τ) none (κ₁ := K (c, some (false, r))) (κ₂ := K (hi r c, some (true, r)))
        (r₁ := 0) (r₂ := 0) (d₁ := 0) (d₂ := 0) (fd := fd) (O₀ := oR r.val c)
        (by rw [duties_send, if_pos h]; exact Finset.mem_singleton_self _) (by rw [duties_recv, if_pos (dn_hi h)]; exact Finset.mem_singleton_self _)
        () () N rfl rfl rfl (oR (r.val + 1) c) (by rw [oR_succ]; unfold Ro; rw [if_pos h]) (W := W)
        (by rw [payload_send]; unfold sendPay sPts; iintro H; iexists fs; iexact H)
        (by
          rw [payload_recv]; unfold recvPay rHolds rPts; rw [lo_hi]
          iintro H; iexists _
          isplitr
          rotate_left
          · iexact H
          · ipureintro; rw [View.read_write_univ]; exact hfs)) $$ [Hf Hd HO Hts Htr]
    · isplitr; · iexact HIs
      isplitr; · iexact HIr
      isplitl [Hf]; · iexact Hf
      isplitl [Hd]; · iexact Hd
      isplitl [HO]; · iexact HO
      isplitl [Hts]; · iexact Hts
      isplitr; · iexact Hrs
      isplitl [Htr]; · iexact Htr
      iexact Hrr
    iintro ⟨Hc, HO⟩
    iapply Hk
    isplitl [HO]; · iexists W; iexact HO
    iexact Hc
  · rw [show (flying c r : sProp 𝕄) = iprop(∃ f, sPts c r f) from if_neg h, dif_neg (fun hh => h (hb.mp hh))]
    unfold owing sHolds
    iintro ⟨-, -, -, -, -, ⟨%W, HO⟩, -, ⟨%fs, %hfs, Hf⟩⟩ Hk
    iapply Hk
    isplitl [HO]
    · iexists W; rw [oR_succ]; unfold Ro; rw [if_neg h, add_zero]; iexact HO
    iexists fs; iexact Hf

/-! ## The landing -/

theorem step_recv (c : Dev nD) (r : Fin 4) {b : Prop} [Decidable b] (hb : b ↔ Dn r c)
    (pay : Vec F S1x1024 .f32 → Vec F S1x1024 .f32 → FVec F S1x1024 .f32) (hpay : pay = k0_pay5)
    {hsrc : (sRow r).view.WordExact} {hdst : (rRow r).view.WordExact}
    {hl₁ hl₃ : (cM : Memref sig .tc .vmem S1x1024 .f32).view.LoadsAt r1.toLoadRect} {hl₂ : (rM : Memref sig .tc .vmem S4x1024 .f32).view.LoadsAt (rowR r).toLoadRect}
    {hs : ((cM : Memref sig .tc .vmem S1x1024 .f32).access r1).Stores Finset.univ} {hm : Finset.univ = Finset.univ ∨ ∀ a, r1.stride a = 1}
    {α : Type} (k : Prog (TpuEff nD τ sig (Elt F) Λ₀ .tc) α) (Q : α → sProp 𝕄) :
    iprop(cellInv ER (Rd m ρ) (K (c, some (true, r))) (recvCell c r) ∗ levAts L lv ∗ cred (Rw r c) ∗ owing c (oR (r.val + 1) c)
        ∗ atPos ER (recvCell c r) 0 ∅ 0 ∗ kept c r ∗ curPts c (cur m ρ r.val c))
      ⊢ iprop(((owing c (oR (r.val + 1) c) ∗ semVal (recvCell c r) 0 ∗ (∃ f, rPts c r f) ∗ curPts c (cur m ρ (r.val + 1) c))
          -∗ wp frame (wpE (defs₀ (F := F)) 𝒱₀ (c : Thread nD τ) none) Set.univ k Q)
        -∗ wp frame (wpE (defs₀ (F := F)) 𝒱₀ (c : Thread nD τ) none) Set.univ
          (dite b (fun _ => .op (.waitDma2 (recvQ r) (sRow r) (rRow r) hsrc hdst) fun _ =>
              .op (.load cM r1.toLoadRect hl₁) fun v => .op (.load rM (rowR r).toLoadRect hl₂) fun v' => .op (.load cM r1.toLoadRect hl₃) fun _ =>
              .op (.store cM r1 (pay v v') Finset.univ hs hm) fun _ => k)
            (fun _ => k)) Q) := by
  subst hpay
  by_cases h : Dn r c
  · rw [dif_pos (hb.mpr h), cur_succ, if_pos h, show (Rw r c : CellTallies nD τ sig Unit) = tallyAt (recvCell c r) () N from if_pos h]
    unfold owing curPts
    iintro ⟨#HI, #Hlev, Hcr, ⟨%W, HO⟩, Hat, -, Hc⟩ Hk
    iapply (Rounds.wp_wait_rest_token 𝒱₀ ER (Rd m ρ) (c : Thread nD τ) none (κ := K (c, some (true, r)))
        (wpE_waitDma2_eq 𝒱₀ (c : Thread nD τ) none Set.univ) (Set.mem_univ _) () (O := oR (r.val + 1) c) (W := W) (R := 0) (m := 0) (T := ∅)
        (by rw [Nat.zero_add, expect_recv m ρ c r h])) $$ [Hcr HO Hat]
    · isplitr; · iexact HI
      isplitl [Hcr]; · iexact Hcr
      isplitl [HO]; · iexact HO
      isplitr; · iapply (mayWait_recv c r); iexact Hlev
      iexact Hat
    iintro ⟨HO, Hat, -, Hpay⟩
    ihave Hp := (Entails.of_eq (rest_recv m ρ c r h)) $$ Hpay
    unfold recvPay rHolds rPts
    icases Hp with ⟨%f, %hf, Hf⟩
    imod (Rounds.cell_close ER (Rd m ρ) (Set.mem_univ (K (c, some (true, r)))) (fun h => h) (R := 0 + 1) (fun k hk => duties_later m ρ (recvCell c r) k hk)) $$ [Hat] with Hz
    · isplitr; · iexact HI
      iexact Hat
    iapply (wp_load 𝒱₀ (c : Thread nD τ) none Set.univ (m := cM) (Finset.subset_univ _)) $$ Hc; iintro Hc
    rw [read_cur]
    iapply (wp_load_rect 𝒱₀ (c : Thread nD τ) none Set.univ (m := rM) (r := rowR r) (Finset.Subset.refl _)) $$ Hf; iintro Hf
    rw [show ((rM : Memref sig .tc .vmem S4x1024 .f32).access (rowR r)).read (Elt F) f = sent m ρ r (lo r c) from hf]
    iapply (wp_load 𝒱₀ (c : Thread nD τ) none Set.univ (m := cM) (Finset.subset_univ _)) $$ Hc; iintro Hc
    iapply (wp_store 𝒱₀ (c : Thread nD τ) none Set.univ (m := cM) (r := r1) (Mk := Finset.univ) (Finset.subset_univ _)) $$ Hc; iintro Hc
    rw [write_cur]
    iapply Hk
    isplitl [HO]; · iexists _; iexact HO
    isplitl [Hz]; · iexact Hz
    isplitl [Hf]; · iexists f; iexact Hf
    iexact Hc
  · rw [dif_neg (fun hh => h (hb.mp hh)), cur_succ, if_neg h, show (kept c r : sProp 𝕄) = iprop(∃ f, rPts c r f) from if_neg h]
    unfold owing curPts
    iintro ⟨#HI, #Hlev, -, ⟨%W, HO⟩, Hat, Hkp, Hc⟩ Hk
    imod (Rounds.cell_close ER (Rd m ρ) (Set.mem_univ (K (c, some (true, r)))) (fun h => h) (R := 0)
      (fun k _ => by
        rcases Nat.eq_zero_or_pos k with rfl | hk
        · rw [duties_recv, if_neg h]
        · exact duties_later m ρ (recvCell c r) k hk)) $$ [Hat] with Hz
    · isplitr; · iexact HI
      iexact Hat
    iapply Hk
    isplitl [HO]; · iexists W; iexact HO
    isplitl [Hz]; · iexact Hz
    isplitl [Hkp]; · iexact Hkp
    iexact Hc

/-! ## The sending finished -/

theorem step_drain (c : Dev nD) (r : Fin 4) {b : Prop} [Decidable b] (hb : b ↔ Up r c)
    {hsrc : (rRow r).view.WordExact} {hdst : (sRow r).view.WordExact}
    {α : Type} (k : Prog (TpuEff nD τ sig (Elt F) Λ₀ .tc) α) (Q : α → sProp 𝕄) :
    iprop(cellInv ER (Rd m ρ) (K (c, some (false, r))) (sendCell c r) ∗ levAts L lv ∗ owing c 0
        ∗ atPos ER (sendCell c r) 0 ∅ 0 ∗ flying c r)
      ⊢ iprop(((owing c 0 ∗ semVal (sendCell c r) 0 ∗ (∃ f, sPts c r f))
          -∗ wp frame (wpE (defs₀ (F := F)) 𝒱₀ (c : Thread nD τ) none) Set.univ k Q)
        -∗ wp frame (wpE (defs₀ (F := F)) 𝒱₀ (c : Thread nD τ) none) Set.univ
          (dite b (fun _ => .op (.waitDma2 (sendQ r) (rRow r) (sRow r) hsrc hdst) fun _ => k) (fun _ => k)) Q) := by
  by_cases h : Up r c
  · rw [dif_pos (hb.mpr h), show (flying c r : sProp 𝕄) = cred (tallyAt (sendCell c r) () N) from if_pos h]
    unfold owing
    iintro ⟨#HI, #Hlev, ⟨%W, HO⟩, Hat, Hfl⟩ Hk
    iapply (Rounds.wp_wait_rest_token 𝒱₀ ER (Rd m ρ) (c : Thread nD τ) none (κ := K (c, some (false, r)))
        (wpE_waitDma2_eq 𝒱₀ (c : Thread nD τ) none Set.univ) (Set.mem_univ _) () (O := 0) (W := W) (R := 0) (m := 0) (T := ∅)
        (by rw [Nat.zero_add, expect_send m ρ c r h])) $$ [Hfl HO Hat]
    · isplitr; · iexact HI
      isplitl [Hfl]; · iexact Hfl
      isplitl [HO]; · iexact HO
      isplitr; · iapply (mayWait_send c r); iexact Hlev
      iexact Hat
    iintro ⟨HO, Hat, -, Hpay⟩
    ihave Hp := (Entails.of_eq (rest_send m ρ c r h)) $$ Hpay
    imod (Rounds.cell_close ER (Rd m ρ) (Set.mem_univ (K (c, some (false, r)))) (fun h => h) (R := 0 + 1) (fun k hk => duties_later m ρ (sendCell c r) k hk)) $$ [Hat] with Hz
    · isplitr; · iexact HI
      iexact Hat
    iapply Hk
    isplitl [HO]; · iexists _; iexact HO
    isplitl [Hz]; · iexact Hz
    unfold sendPay
    iexact Hp
  · rw [dif_neg (fun hh => h (hb.mp hh)), show (flying c r : sProp 𝕄) = iprop(∃ f, sPts c r f) from if_neg h]
    unfold owing
    iintro ⟨#HI, #Hlev, ⟨%W, HO⟩, Hat, Hfl⟩ Hk
    imod (Rounds.cell_close ER (Rd m ρ) (Set.mem_univ (K (c, some (false, r)))) (fun h => h) (R := 0)
      (fun k _ => by
        rcases Nat.eq_zero_or_pos k with rfl | hk
        · rw [duties_send, if_neg h]
        · exact duties_later m ρ (sendCell c r) k hk)) $$ [Hat] with Hz
    · isplitr; · iexact HI
      iexact Hat
    iapply Hk
    isplitl [HO]; · iexists W; iexact HO
    isplitl [Hz]; · iexact Hz
    iexact Hfl

end Cert.KernelIdeal.Scan
end
-- ==== Proof.KernelIdeal.Parts.lean ====
/-
# The parts of the scan's body

The body comes in five parts and a tail. Here each part is one lemma: what it takes, what it leaves, for the float operations of any
kind. The guards and the peers are read off the device's number, on the sixteen devices.
-/
module

public import proofs.«01_k».proof.Proof.KernelIdeal.Steps

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ)

/-! ## Guards and peers -/

/-- A device's number as the body computes it. -/
abbrev vw (c : Dev nD) : BitVec 32 := Scalar.remsi (Scalar.divsi (Dev.word c) 1#32) 16#32

theorem cond1_iff : ∀ c : Dev nD, k0_cond1 c = 1#1 ↔ Dn 0 c := by decide +kernel
theorem cond2_iff : ∀ c : Dev nD, k0_cond2 c = 1#1 ↔ Dn 1 c := by decide +kernel
theorem cond3_iff : ∀ c : Dev nD, k0_cond3 c = 1#1 ↔ Dn 2 c := by decide +kernel
theorem cond4_iff : ∀ c : Dev nD, k0_cond4 c = 1#1 ↔ Dn 3 c := by decide +kernel
theorem cond9_iff : ∀ c : Dev nD, k0_cond9 c = 1#1 ↔ Up 0 c := by decide +kernel
theorem cond11_iff : ∀ c : Dev nD, k0_cond11 c = 1#1 ↔ Up 1 c := by decide +kernel
theorem cond13_iff : ∀ c : Dev nD, k0_cond13 c = 1#1 ↔ Up 2 c := by decide +kernel
theorem cond15_iff : ∀ c : Dev nD, k0_cond15 c = 1#1 ↔ Up 3 c := by decide +kernel

/-- The word of a guard "`2 ^ r` above lies in the mesh". -/
abbrev upWord (w : BitVec 32) (v : BitVec 32) : BitVec 1 := Scalar.cmpi .ne (Scalar.extui (Scalar.cmpi .slt (Scalar.addi v w) 16#32)) 0#32
/-- The word of a guard "`2 ^ r` below lies in the mesh". -/
abbrev dnWord (w : BitVec 32) (v : BitVec 32) : BitVec 1 := Scalar.cmpi .ne (Scalar.extui (Scalar.cmpi .sge v w)) 0#32

theorem up0_iff : ∀ c : Dev nD, upWord 1#32 (vw c) = 1#1 ↔ Up 0 c := by decide +kernel
theorem up1_iff : ∀ c : Dev nD, upWord 2#32 (vw c) = 1#1 ↔ Up 1 c := by decide +kernel
theorem up2_iff : ∀ c : Dev nD, upWord 4#32 (vw c) = 1#1 ↔ Up 2 c := by decide +kernel
theorem up3_iff : ∀ c : Dev nD, upWord 8#32 (vw c) = 1#1 ↔ Up 3 c := by decide +kernel
theorem dn0_iff : ∀ c : Dev nD, dnWord 1#32 (vw c) = 1#1 ↔ Dn 0 c := by decide +kernel
theorem dn1_iff : ∀ c : Dev nD, dnWord 2#32 (vw c) = 1#1 ↔ Dn 1 c := by decide +kernel
theorem dn2_iff : ∀ c : Dev nD, dnWord 4#32 (vw c) = 1#1 ↔ Dn 2 c := by decide +kernel
theorem dn3_iff : ∀ c : Dev nD, dnWord 8#32 (vw c) = 1#1 ↔ Dn 3 c := by decide +kernel

theorem dev1_eq : ∀ c : Dev nD, k0_cond1 c = 1#1 → k0_dev1 c = (lo 0 c).val := by decide +kernel
theorem dev2_eq : ∀ c : Dev nD, k0_cond2 c = 1#1 → k0_dev2 c = (lo 1 c).val := by decide +kernel
theorem dev3_eq : ∀ c : Dev nD, k0_cond3 c = 1#1 → k0_dev3 c = (lo 2 c).val := by decide +kernel
theorem dev4_eq : ∀ c : Dev nD, k0_cond4 c = 1#1 → k0_dev4 c = (lo 3 c).val := by decide +kernel
theorem dev5_eq : ∀ c : Dev nD, k0_cond9 c = 1#1 → k0_dev5 c = (hi 0 c).val := by decide +kernel
theorem dev6_eq : ∀ c : Dev nD, k0_cond11 c = 1#1 → k0_dev6 c = (hi 1 c).val := by decide +kernel
theorem dev7_eq : ∀ c : Dev nD, k0_cond13 c = 1#1 → k0_dev7 c = (hi 2 c).val := by decide +kernel
theorem dev8_eq : ∀ c : Dev nD, k0_cond15 c = 1#1 → k0_dev8 c = (hi 3 c).val := by decide +kernel

/-! ## Side conditions of the copies -/

theorem exact_s (r : Fin 4) : (sRow r).view.WordExact := View.wordExact_bits rfl
theorem exact_r (r : Fin 4) : (rRow r).view.WordExact := View.wordExact_bits rfl
theorem plain_r (r : Fin 4) (c : Dev nD) : (rRow r : Memref sig (Dev.tc c : Thread nD τ).2.kind .vmem S1x1024 .f32).view.ref.isScScratch = false := rfl
theorem typed_r (r : Fin 4) (c : Dev nD) :
    DmaTarget.Typed (p := .tc) .vmem (.dma (recvQ r)) (.remote (Dev.tc c : Thread nD τ) (rRow r) (.dma (sendQ r)) (plain_r r c)) :=
  ⟨⟨rfl, Or.inl rfl⟩, trivial⟩

/-! ## The records every device holds: each cell's invariant, and each cell at round 0 -/

/-- The semaphore a name stands for. -/
def csem : CellIx → SemLoc sig
  | none => .reg barS
  | some (false, r) => .dma (sendQ r)
  | some (true, r) => .dma (recvQ r)
/-- The cell a device and a name stand for. -/
abbrev kcell (p : Dev nD × CellIx) : GSem nD τ sig := ((p.1 : Thread nD τ), csem p.2)

def recs : sProp 𝕄 := bigSep Finset.univ fun p => iprop(cellInv ER (Rd m ρ) (K p) (kcell p) ∗ reached ER (kcell p) 0)

instance recs_persistent : BI.Persistent (recs (F := F) m ρ K) := by unfold recs; infer_instance

theorem recs_at (p : Dev nD × CellIx) : recs m ρ K ⊢ iprop(cellInv ER (Rd m ρ) (K p) (kcell p) ∗ reached ER (kcell p) 0) := by
  unfold recs; exact bigSep_elim (Finset.mem_univ p)

/-! ## What a device holds for one distance -/

/-- The duties a device pays at one distance: its signal, its copy's sending and its copy's landing. -/
def toks (c : Dev nD) (r : Fin 4) : sProp 𝕄 := iprop(dutyTok ER (sendCell c r) 0 0 ∗ dutyTok ER (recvCell (hi r c) r) 0 0)
/-- Its two copy cells, untouched. -/
def fresh (c : Dev nD) (r : Fin 4) : sProp 𝕄 := atPos ER (recvCell c r) 0 ∅ 0
/-- A whole exchange at one distance, before. -/
def before (c : Dev nD) (r : Fin 4) : sProp 𝕄 :=
  iprop(toks c r ∗ granted c r ∗ kept c r ∗ cred (Rw r c) ∗ fresh c r ∗ (∃ f, sPts c r f))
/-- A whole exchange at one distance, after: the sending may still be on its way. -/
def after (c : Dev nD) (r : Fin 4) : sProp 𝕄 := iprop(flying c r ∗ semVal (recvCell c r) 0 ∗ (∃ f, rPts c r f))
/-- The exchange's sending row filled. -/
def between (c : Dev nD) (r : Fin 4) : sProp 𝕄 :=
  iprop(toks c r ∗ granted c r ∗ kept c r ∗ cred (Rw r c) ∗ fresh c r ∗ sHolds c r (sent m ρ r c))

/-! ## One exchange: fill, send, receive -/

section Exchange
variable (c : Dev nD) (r : Fin 4)

theorem st_signal {b : Prop} [Decidable b] (hb : b ↔ Dn r c) (n : b → Dev nD) (hn : ∀ h, n h = lo r c)
    {α : Type} (k : Prog (TpuEff nD τ sig (Elt F) Λ₀ .tc) α) (Q : α → sProp 𝕄) :
    iprop(recs m ρ K ∗ dutyTok ER (barCell (lo r c)) 0 r ∗ owing c (oB r.val c) ∗ (∃ f, rPts c r f))
      ⊢ iprop(((owing c (oB (r.val + 1) c) ∗ kept c r) -∗ wp frame (wpE (defs₀ (F := F)) 𝒱₀ (c : Thread nD τ) none) Set.univ k Q)
        -∗ wp frame (wpE (defs₀ (F := F)) 𝒱₀ (c : Thread nD τ) none) Set.univ
          (dite b (fun h => .op (.semSignal (n h, .tc) barS (1#32).toInt) fun _ => k) (fun _ => k)) Q) := by
  iintro ⟨#HR, Ht, HO, Hr⟩ Hk
  ihave #⟨H1, H2⟩ := (recs_at m ρ K (lo r c, none)) $$ HR
  ihave #⟨-, H3⟩ := (recs_at m ρ K (c, some (true, r))) $$ HR
  iapply (step_signal m ρ K c r hb n hn k Q) $$ [Ht HO Hr]
  · isplitr; · iexact H1
    isplitr; · iexact H2
    isplitr; · iexact H3
    isplitl [Ht]; · iexact Ht
    isplitl [HO]; · iexact HO
    iexact Hr
  iexact Hk

theorem st_unit {b : Prop} [Decidable b] (hb : b ↔ Up r c)
    {α : Type} (k : Prog (TpuEff nD τ sig (Elt F) Λ₀ .tc) α) (Q : α → sProp 𝕄) :
    iprop(recs m ρ K ∗ levAts L lv ∗ cred (Bw r c) ∗ owing c (oR 0 c) ∗ barAt c r.val)
      ⊢ iprop(((owing c (oR 0 c) ∗ barAt c (r.val + 1)) -∗ wp frame (wpE (defs₀ (F := F)) 𝒱₀ (c : Thread nD τ) none) Set.univ k Q)
        -∗ wp frame (wpE (defs₀ (F := F)) 𝒱₀ (c : Thread nD τ) none) Set.univ
          (dite b (fun _ => .op (.semWait barS (1#32).toInt) fun _ => k) (fun _ => k)) Q) := by
  iintro ⟨#HR, #Hl, Hc, HO, Hb⟩ Hk
  ihave #⟨H1, -⟩ := (recs_at m ρ K (c, none)) $$ HR
  iapply (step_unit m ρ K c r hb k Q) $$ [Hc HO Hb]
  · isplitr; · iexact H1
    isplitr; · iexact Hl
    isplitl [Hc]; · iexact Hc
    isplitl [HO]; · iexact HO
    iexact Hb
  iexact Hk

theorem st_fill (pay : Vec F S1x1024 .f32 → FVec F S1x1024 .f32) (hpay : pay = k0_pay4)
    {hl₁ : (cM : Memref sig .tc .vmem S1x1024 .f32).view.LoadsAt r1.toLoadRect} {hl₂ : (sM : Memref sig .tc .vmem S4x1024 .f32).view.LoadsAt (rowR r).toLoadRect}
    {hs : ((sM : Memref sig .tc .vmem S4x1024 .f32).access (rowR r)).Stores Finset.univ} {hm : Finset.univ = Finset.univ ∨ ∀ a, (rowR r).stride a = 1}
    {α : Type} (k : Prog (TpuEff nD τ sig (Elt F) Λ₀ .tc) α) (Q : α → sProp 𝕄) :
    iprop(curPts c (cur m ρ r.val c) ∗ before c r)
      ⊢ iprop(((curPts c (cur m ρ r.val c) ∗ between m ρ c r) -∗ wp frame (wpE (defs₀ (F := F)) 𝒱₀ (c : Thread nD τ) none) Set.univ k Q)
        -∗ wp frame (wpE (defs₀ (F := F)) 𝒱₀ (c : Thread nD τ) none) Set.univ
          (.op (.load cM r1.toLoadRect hl₁) fun v => .op (.load sM (rowR r).toLoadRect hl₂) fun _ =>
            .op (.store sM (rowR r) (pay v) Finset.univ hs hm) fun _ => k) Q) := by
  unfold before between
  iintro ⟨Hc, ⟨Ht, Hg, Hkp, Hcr, Hat, Hs⟩⟩ Hk
  iapply (step_fill m ρ c r pay hpay k Q) $$ [Hc Hs]
  · isplitl [Hc]; · iexact Hc
    iexact Hs
  iintro ⟨Hc, Hs⟩
  iapply Hk
  isplitl [Hc]; · iexact Hc
  isplitl [Ht]; · iexact Ht
  isplitl [Hg]; · iexact Hg
  isplitl [Hkp]; · iexact Hkp
  isplitl [Hcr]; · iexact Hcr
  isplitl [Hat]; · iexact Hat
  iexact Hs

/-- The send and the receipt of one distance, one after the other. -/
theorem st_exchange {b : Prop} [Decidable b] (hb : b ↔ Up r c) (n : b → Dev nD) (hn : ∀ h, n h = hi r c) {b' : Prop} [Decidable b'] (hb' : b' ↔ Dn r c)
    (pay : Vec F S1x1024 .f32 → Vec F S1x1024 .f32 → FVec F S1x1024 .f32) (hpay : pay = k0_pay5)
    {hl₁ hl₃ : (cM : Memref sig .tc .vmem S1x1024 .f32).view.LoadsAt r1.toLoadRect} {hl₂ : (rM : Memref sig .tc .vmem S4x1024 .f32).view.LoadsAt (rowR r).toLoadRect}
    {hs : ((cM : Memref sig .tc .vmem S1x1024 .f32).access r1).Stores Finset.univ} {hm : Finset.univ = Finset.univ ∨ ∀ a, r1.stride a = 1}
    {α : Type} (k : Prog (TpuEff nD τ sig (Elt F) Λ₀ .tc) α) (Q : α → sProp 𝕄) :
    iprop(recs m ρ K ∗ levAts L lv ∗ owing c (oR r.val c) ∗ curPts c (cur m ρ r.val c) ∗ between m ρ c r)
      ⊢ iprop(((owing c (oR (r.val + 1) c) ∗ curPts c (cur m ρ (r.val + 1) c) ∗ after c r)
          -∗ wp frame (wpE (defs₀ (F := F)) 𝒱₀ (c : Thread nD τ) none) Set.univ k Q)
        -∗ wp frame (wpE (defs₀ (F := F)) 𝒱₀ (c : Thread nD τ) none) Set.univ
          (dite b (fun h => .op (.enqueueDma (sRow r) (.remote (Dev.tc (n h) : Thread nD τ) (rRow r) (.dma (sendQ r)) (plain_r r (n h))) (.dma (recvQ r)) (exact_s r) (exact_r r) (typed_r r (n h))) fun _ =>
              (dite b' (fun _ => .op (.waitDma2 (recvQ r) (sRow r) (rRow r) (exact_s r) (exact_r r)) fun _ =>
                .op (.load cM r1.toLoadRect hl₁) fun v => .op (.load rM (rowR r).toLoadRect hl₂) fun v' => .op (.load cM r1.toLoadRect hl₃) fun _ =>
                .op (.store cM r1 (pay v v') Finset.univ hs hm) fun _ => k) (fun _ => k)))
            (fun _ =>
              (dite b' (fun _ => .op (.waitDma2 (recvQ r) (sRow r) (rRow r) (exact_s r) (exact_r r)) fun _ =>
                .op (.load cM r1.toLoadRect hl₁) fun v => .op (.load rM (rowR r).toLoadRect hl₂) fun v' => .op (.load cM r1.toLoadRect hl₃) fun _ =>
                .op (.store cM r1 (pay v v') Finset.univ hs hm) fun _ => k) (fun _ => k)))) Q) := by
  unfold between after toks fresh
  iintro ⟨#HR, #Hl, HO, Hc, ⟨⟨Hts, Htr⟩, Hg, Hkp, Hcr, Hat, Hs⟩⟩ Hk
  ihave #⟨H1, H2⟩ := (recs_at m ρ K (c, some (false, r))) $$ HR
  ihave #⟨H3, -⟩ := (recs_at m ρ K (hi r c, some (true, r))) $$ HR
  ihave #⟨H4, -⟩ := (recs_at m ρ K (c, some (true, r))) $$ HR
  iapply (step_send m ρ K c r hb n hn _ Q) $$ [Hts Htr HO Hg Hs]
  · isplitr; · iexact H1
    isplitr; · iexact H3
    isplitr; · iexact H2
    isplitl [Hts]; · iexact Hts
    isplitl [Htr]; · iexact Htr
    isplitl [HO]; · iexact HO
    isplitl [Hg]; · iexact Hg
    iexact Hs
  iintro ⟨HO, Hfl⟩
  iapply (step_recv m ρ K c r hb' pay hpay k Q) $$ [Hcr HO Hat Hkp Hc]
  · isplitr; · iexact H4
    isplitr; · iexact Hl
    isplitl [Hcr]; · iexact Hcr
    isplitl [HO]; · iexact HO
    isplitl [Hat]; · iexact Hat
    isplitl [Hkp]; · iexact Hkp
    iexact Hc
  iintro ⟨HO, Hz, Hr, Hc⟩
  iapply Hk
  isplitl [HO]; · iexact HO
  isplitl [Hc]; · iexact Hc
  isplitl [Hfl]; · iexact Hfl
  isplitl [Hz]; · iexact Hz
  iexact Hr

theorem st_drain {b : Prop} [Decidable b] (hb : b ↔ Up r c)
    {α : Type} (k : Prog (TpuEff nD τ sig (Elt F) Λ₀ .tc) α) (Q : α → sProp 𝕄) :
    iprop(recs m ρ K ∗ levAts L lv ∗ owing c 0 ∗ atPos ER (sendCell c r) 0 ∅ 0 ∗ flying c r)
      ⊢ iprop(((owing c 0 ∗ semVal (sendCell c r) 0 ∗ (∃ f, sPts c r f))
          -∗ wp frame (wpE (defs₀ (F := F)) 𝒱₀ (c : Thread nD τ) none) Set.univ k Q)
        -∗ wp frame (wpE (defs₀ (F := F)) 𝒱₀ (c : Thread nD τ) none) Set.univ
          (dite b (fun _ => .op (.waitDma2 (sendQ r) (rRow r) (sRow r) (exact_r r) (exact_s r)) fun _ => k) (fun _ => k)) Q) := by
  iintro ⟨#HR, #Hl, HO, Hat, Hf⟩ Hk
  ihave #⟨H1, -⟩ := (recs_at m ρ K (c, some (false, r))) $$ HR
  iapply (step_drain m ρ K c r hb k Q) $$ [HO Hat Hf]
  · isplitr; · iexact H1
    isplitr; · iexact Hl
    isplitl [HO]; · iexact HO
    isplitl [Hat]; · iexact Hat
    iexact Hf
  iexact Hk

end Exchange

/-! ## The blocks of the result -/

theorem inbBlk (b : Fin 8) : ∀ a, (![256 * b.val, 0] : Fin 2 → Nat) a + S256x1024.size a ≤ S2048x1024.size a := by revert b; decide
/-- Block `b` of 256 rows. -/
abbrev blkR (b : Fin 8) : Rect S2048x1024 := Rect.unit (s := S2048x1024) ![256 * b.val, 0] S256x1024.size (inbBlk b)
/-- The result's buffer. -/
def outPts (c : Dev nD) (f : FVec F S2048x1024 .f32) : sProp 𝕄 := ((c : Thread nD τ).loc cc0_stg1_0) ↦{fullShare} f
/-- Block `b` replaced. -/
def putBlk (b : Fin 8) (w : FVec F S256x1024 .f32) (f : FVec F S2048x1024 .f32) : FVec F S2048x1024 .f32 :=
  ((oM : Memref sig .tc .vmem S2048x1024 .f32).access (blkR b) : View sig .tc _ _ _).write (Elt F) f w Finset.univ

theorem st_out (c : Dev nD) (b : Fin 8) (w : FVec F S256x1024 .f32) (f : FVec F S2048x1024 .f32)
    {hl : (oM : Memref sig .tc .vmem S2048x1024 .f32).view.LoadsAt (blkR b).toLoadRect}
    {hs : ((oM : Memref sig .tc .vmem S2048x1024 .f32).access (blkR b)).Stores Finset.univ} {hm : Finset.univ = Finset.univ ∨ ∀ a, (blkR b).stride a = 1}
    {α : Type} (k : Prog (TpuEff nD τ sig (Elt F) Λ₀ .tc) α) (Q : α → sProp 𝕄) :
    outPts c f ⊢ iprop((outPts c (putBlk b w f) -∗ wp frame (wpE (defs₀ (F := F)) 𝒱₀ (c : Thread nD τ) none) Set.univ k Q)
      -∗ wp frame (wpE (defs₀ (F := F)) 𝒱₀ (c : Thread nD τ) none) Set.univ
        (.op (.load oM (blkR b).toLoadRect hl) fun _ => .op (.store oM (blkR b) w Finset.univ hs hm) fun _ => k) Q) := by
  unfold outPts
  iintro Ho Hk
  iapply (wp_load 𝒱₀ (c : Thread nD τ) none Set.univ (m := oM) (Finset.subset_univ _)) $$ Ho; iintro Ho
  iapply (wp_store 𝒱₀ (c : Thread nD τ) none Set.univ (m := oM) (r := blkR b) (Mk := Finset.univ) (Finset.subset_univ _)) $$ Ho; iintro Ho
  iapply Hk
  iexact Ho

end Cert.KernelIdeal.Scan
end
-- ==== Proof.KernelIdeal.BodyParts.lean ====
/-
# The body of the scan, part by part

Each part of the body, run: what it takes and what it leaves.
-/
module

public import proofs.«01_k».proof.Proof.KernelIdeal.Parts

@[expose] public section

set_option maxHeartbeats 4000000

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ)

/-! ## The buffers of the body's start and end -/

/-- A device's block of `x`, in its buffer. -/
def xPts (c : Dev nD) : sProp 𝕄 := ((c : Thread nD τ).loc cc0_stg0_0) ↦{fullShare} xstg m ρ c
/-- The row of a device's own sums. -/
def ownPts (c : Dev nD) (v : FVec F S1x1024 .f32) : sProp 𝕄 := ((c : Thread nD τ).loc cc0_scratch0) ↦{fullShare} v

theorem read_x (f : FVec F S2048x1024 .f32) (h) : (xM : Memref sig .tc .vmem S2048x1024 .f32).view.readAt (Elt F)
    (Rect.unit (s := S2048x1024) ![0, 0] S2048x1024.size h).toLoadRect f = f :=
  Memref.readAt_unit_zero (Elt F) cc0_stg0_0 hz2 _ f
theorem read_own (v : FVec F S1x1024 .f32) : (wM : Memref sig .tc .vmem S1x1024 .f32).view.readAt (Elt F) r1.toLoadRect v = v :=
  Memref.readAt_unit_zero (Elt F) cc0_scratch0 hz2 _ v
theorem write_own (f w : FVec F S1x1024 .f32) :
    ((wM : Memref sig .tc .vmem S1x1024 .f32).access r1 : View sig .tc _ _ _).write (Elt F) f w Finset.univ = w :=
  Memref.write_access_unit_zero_univ (Elt F) cc0_scratch0 hz2 _ f w

/-! ## Part 1: the device's own sums, the running row's start, and three signals -/

theorem part1 (c : Dev nD)
    (Q : (Σ' (d0 : Dev nD) (v2 : BitVec 32) (v5 : FVec F S2048x1024 .bf16) (v16 : Sems sig S_), BitVec 32) → sProp 𝕄) :
    iprop(recs m ρ K ∗ xPts m ρ c ∗ (∃ v, ownPts c v) ∗ (∃ v, curPts c v)
        ∗ dutyTok ER (barCell (lo 0 c)) 0 (0 : Fin 4) ∗ dutyTok ER (barCell (lo 1 c)) 0 (1 : Fin 4) ∗ dutyTok ER (barCell (lo 2 c)) 0 (2 : Fin 4) ∗ owing c (oB 0 c)
        ∗ (∃ f, rPts c 0 f) ∗ (∃ f, rPts c 1 f) ∗ (∃ f, rPts c 2 f))
      ⊢ iprop((∀ v31, (xPts m ρ c ∗ ownPts c (own m ρ c) ∗ curPts c (cur m ρ 0 c) ∗ owing c (oB 3 c) ∗ kept c 0 ∗ kept c 1 ∗ kept c 2)
          -∗ Q ⟨c, vw c, k0_pay1 (xstg m ρ c), SemArray.scalar (sig.barrier 0 rfl), v31⟩)
        -∗ wp frame (wpE (defs₀ (F := F)) 𝒱₀ (c : Thread nD τ) none) Set.univ
          (k0_part1 xM (Memref.isWhole_whole _) oM (Memref.isWhole_whole _) wM (Memref.isWhole_whole _) cM (Memref.isWhole_whole _)
            sM (Memref.isWhole_whole _) rM (Memref.isWhole_whole _) cc0_scratch4 cc0_scratch5) Q) := by
  rw [k0_part1_eq_skeleton]
  unfold k0_part1_skel
  simp only [semSignalWord, semWaitWord, Prog.lift, Prog.bind_op, Prog.bind_ret, Prog.pure_eq_ret, wp_deviceId]
  unfold xPts ownPts curPts
  iintro ⟨#HR, Hx, ⟨%w, Hw⟩, ⟨%v, Hv⟩, Ht0, Ht1, Ht2, HO, Hr0, Hr1, Hr2⟩ Hk
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  iapply (wp_store 𝒱₀ (c : Thread nD τ) none Set.univ (m := wM) (r := r1) (Mk := Finset.univ) (Finset.subset_univ _)) $$ Hw; iintro Hw
  rw [write_own]
  iapply (wp_load 𝒱₀ (c : Thread nD τ) none Set.univ (m := wM) (Finset.subset_univ _)) $$ Hw; iintro Hw
  rw [read_own]
  iapply (wp_load 𝒱₀ (c : Thread nD τ) none Set.univ (m := cM) (Finset.subset_univ _)) $$ Hv; iintro Hv
  iapply (wp_store 𝒱₀ (c : Thread nD τ) none Set.univ (m := cM) (r := r1) (Mk := Finset.univ) (Finset.subset_univ _)) $$ Hv; iintro Hv
  rw [write_cur]
  iapply (st_signal m ρ K c 0 (cond1_iff c) (fun h => ⟨k0_dev1 c, k0_dev1_lt c h⟩) (fun h => Fin.ext (dev1_eq c h)) _ Q) $$ [Ht0 HO Hr0]
  · isplitr; · iexact HR
    isplitl [Ht0]; · iexact Ht0
    isplitl [HO]; · iexact HO
    iexact Hr0
  iintro ⟨HO, Hr0⟩
  iapply (st_signal m ρ K c 1 (cond2_iff c) (fun h => ⟨k0_dev2 c, k0_dev2_lt c h⟩) (fun h => Fin.ext (dev2_eq c h)) _ Q) $$ [Ht1 HO Hr1]
  · isplitr; · iexact HR
    isplitl [Ht1]; · iexact Ht1
    isplitl [HO]; · iexact HO
    iexact Hr1
  iintro ⟨HO, Hr1⟩
  iapply (st_signal m ρ K c 2 (cond3_iff c) (fun h => ⟨k0_dev3 c, k0_dev3_lt c h⟩) (fun h => Fin.ext (dev3_eq c h)) _ Q) $$ [Ht2 HO Hr2]
  · isplitr; · iexact HR
    isplitl [Ht2]; · iexact Ht2
    isplitl [HO]; · iexact HO
    iexact Hr2
  iintro ⟨HO, Hr2⟩
  rw [wp_ret]
  imodintro
  iapply Hk
  isplitl [Hx]; · iexact Hx
  isplitl [Hw]; · iexact Hw
  isplitl [Hv]; · iexact Hv
  isplitl [HO]; · iexact HO
  isplitl [Hr0]; · iexact Hr0
  isplitl [Hr1]; · iexact Hr1
  iexact Hr2

/-- Four resources, one for each distance. -/
theorem four_split (Φ : Fin 4 → sProp 𝕄) : bigSep Finset.univ Φ ⊢ iprop(Φ 0 ∗ Φ 1 ∗ Φ 2 ∗ Φ 3) := by
  rw [bigSep_univ_eq_bigSepL ([0, 1, 2, 3] : List (Fin 4)) (by decide) (by decide)]
  show iprop(Φ 0 ∗ Φ 1 ∗ Φ 2 ∗ Φ 3) ⊢ _
  exact Entails.refl _
theorem four_join (Φ : Fin 4 → sProp 𝕄) : iprop(Φ 0 ∗ Φ 1 ∗ Φ 2 ∗ Φ 3) ⊢ bigSep Finset.univ Φ := by
  rw [bigSep_univ_eq_bigSepL ([0, 1, 2, 3] : List (Fin 4)) (by decide) (by decide)]
  show _ ⊢ iprop(Φ 0 ∗ Φ 1 ∗ Φ 2 ∗ Φ 3)
  exact Entails.refl _

/-! ## Part 2: the last signal, the barrier, and the exchange at distance 1 -/

/-- What an exchange needs beside the barrier's grant. -/
def ready (c : Dev nD) (r : Fin 4) : sProp 𝕄 :=
  iprop(toks c r ∗ kept c r ∗ cred (Rw r c) ∗ fresh c r ∗ (∃ f, sPts c r f))

theorem before_intro (c : Dev nD) (r : Fin 4) : iprop(granted c r ∗ ready c r) ⊢ (before c r : sProp 𝕄) := by
  unfold ready before
  iintro ⟨Hg, ⟨Ht, Hk, Hc, Hf, Hs⟩⟩
  isplitl [Ht]; · iexact Ht
  isplitl [Hg]; · iexact Hg
  isplitl [Hk]; · iexact Hk
  isplitl [Hc]; · iexact Hc
  isplitl [Hf]; · iexact Hf
  iexact Hs

theorem part2 (c : Dev nD) (v31 : BitVec 32) (Q : PUnit → sProp 𝕄) :
    iprop(recs m ρ K ∗ levAts L lv ∗ curPts c (cur m ρ 0 c)
        ∗ dutyTok ER (barCell (lo 3 c)) 0 (3 : Fin 4) ∗ owing c (oB 3 c) ∗ (∃ f, rPts c 3 f) ∗ barAt c 0
        ∗ cred (Bw 0 c) ∗ cred (Bw 1 c) ∗ cred (Bw 2 c) ∗ cred (Bw 3 c) ∗ ready c 0)
      ⊢ iprop(((owing c (oR 1 c) ∗ semVal (barCell c) 0 ∗ curPts c (cur m ρ 1 c) ∗ kept c 3 ∗ after c 0 ∗ granted c 1 ∗ granted c 2 ∗ granted c 3)
          -∗ Q ⟨⟩)
        -∗ wp frame (wpE (defs₀ (F := F)) 𝒱₀ (c : Thread nD τ) none) Set.univ
          (k0_part2 xM (Memref.isWhole_whole _) oM (Memref.isWhole_whole _) wM (Memref.isWhole_whole _) cM (Memref.isWhole_whole _)
            sM (Memref.isWhole_whole _) rM (Memref.isWhole_whole _) cc0_scratch4 cc0_scratch5 c (vw c) (SemArray.scalar (sig.barrier 0 rfl)) v31) Q) := by
  rw [k0_part2_eq_skeleton]
  unfold k0_part2_skel
  simp only [semSignalWord, semWaitWord, Prog.lift, Prog.bind_op, Prog.bind_ret, Prog.pure_eq_ret]
  iintro ⟨#HR, #Hl, Hc, Ht, HO, Hr, Hb, Hc0, Hc1, Hc2, Hc3, Hrd⟩ Hk
  iapply (st_signal m ρ K c 3 (cond4_iff c) (fun h => ⟨k0_dev4 c, k0_dev4_lt c h⟩) (fun h => Fin.ext (dev4_eq c h)) _ Q) $$ [Ht HO Hr]
  · isplitr; · iexact HR
    isplitl [Ht]; · iexact Ht
    isplitl [HO]; · iexact HO
    iexact Hr
  iintro ⟨HO, Hr⟩
  iapply (st_unit m ρ K c 0 (up0_iff c) _ Q) $$ [Hc0 HO Hb]
  · isplitr; · iexact HR
    isplitr; · iexact Hl
    isplitl [Hc0]; · iexact Hc0
    isplitl [HO]; · iexact HO
    iexact Hb
  iintro ⟨HO, Hb⟩
  iapply (st_unit m ρ K c 1 (up1_iff c) _ Q) $$ [Hc1 HO Hb]
  · isplitr; · iexact HR
    isplitr; · iexact Hl
    isplitl [Hc1]; · iexact Hc1
    isplitl [HO]; · iexact HO
    iexact Hb
  iintro ⟨HO, Hb⟩
  iapply (st_unit m ρ K c 2 (up2_iff c) _ Q) $$ [Hc2 HO Hb]
  · isplitr; · iexact HR
    isplitr; · iexact Hl
    isplitl [Hc2]; · iexact Hc2
    isplitl [HO]; · iexact HO
    iexact Hb
  iintro ⟨HO, Hb⟩
  iapply (st_unit m ρ K c 3 (up3_iff c) _ Q) $$ [Hc3 HO Hb]
  · isplitr; · iexact HR
    isplitr; · iexact Hl
    isplitl [Hc3]; · iexact Hc3
    isplitl [HO]; · iexact HO
    iexact Hb
  iintro ⟨HO, Hb⟩
  ihave #⟨H1, -⟩ := (recs_at m ρ K (c, none)) $$ HR
  imod (barAt_close m ρ K c) $$ [Hb] with ⟨Hz, Hg⟩
  · isplitr; · iexact H1
    iexact Hb
  ihave ⟨Hg0, Hg1, Hg2, Hg3⟩ := (four_split (fun r => granted (F := F) c r)) $$ Hg
  ihave Hbf := (before_intro c 0) $$ [Hg0 Hrd]
  · isplitl [Hg0]; · iexact Hg0
    iexact Hrd
  iapply (st_fill m ρ c 0 _ rfl _ Q) $$ [Hc Hbf]
  · isplitl [Hc]; · iexact Hc
    iexact Hbf
  iintro ⟨Hc, Hbf⟩
  iapply (st_exchange m ρ K c 0 (cond9_iff c) (fun h => ⟨k0_dev5 c, k0_dev5_lt c h⟩) (fun h => Fin.ext (dev5_eq c h)) (dn0_iff c) _ rfl _ Q) $$ [HO Hc Hbf]
  · isplitr; · iexact HR
    isplitr; · iexact Hl
    isplitl [HO]; · iexact HO
    isplitl [Hc]; · iexact Hc
    iexact Hbf
  iintro ⟨HO, Hc, Ha⟩
  rw [wp_ret]
  imodintro
  iapply Hk
  isplitl [HO]; · iexact HO
  isplitl [Hz]; · iexact Hz
  isplitl [Hc]; · iexact Hc
  isplitl [Hr]; · iexact Hr
  isplitl [Ha]; · iexact Ha
  isplitl [Hg1]; · iexact Hg1
  isplitl [Hg2]; · iexact Hg2
  iexact Hg3

/-! ## Part 3: the exchanges at distances 2 and 4, and the sending row of distance 8 -/

theorem part3 (c : Dev nD) (Q : (Σ' (v90 : BitVec 32), BitVec 32) → sProp 𝕄) :
    iprop(recs m ρ K ∗ levAts L lv ∗ owing c (oR 1 c) ∗ curPts c (cur m ρ 1 c) ∗ before c 1 ∗ before c 2 ∗ before c 3)
      ⊢ iprop((∀ v, (owing c (oR 3 c) ∗ curPts c (cur m ρ 3 c) ∗ after c 1 ∗ after c 2 ∗ between m ρ c 3) -∗ Q v)
        -∗ wp frame (wpE (defs₀ (F := F)) 𝒱₀ (c : Thread nD τ) none) Set.univ
          (k0_part3 xM (Memref.isWhole_whole _) oM (Memref.isWhole_whole _) wM (Memref.isWhole_whole _) cM (Memref.isWhole_whole _)
            sM (Memref.isWhole_whole _) rM (Memref.isWhole_whole _) cc0_scratch4 cc0_scratch5 c (vw c)) Q) := by
  rw [k0_part3_eq_skeleton]
  unfold k0_part3_skel
  simp only [semSignalWord, semWaitWord, Prog.lift, Prog.bind_op, Prog.bind_ret, Prog.pure_eq_ret]
  iintro ⟨#HR, #Hl, HO, Hc, Hb1, Hb2, Hb3⟩ Hk
  iapply (st_fill m ρ c 1 _ rfl _ Q) $$ [Hc Hb1]
  · isplitl [Hc]; · iexact Hc
    iexact Hb1
  iintro ⟨Hc, Hb1⟩
  iapply (st_exchange m ρ K c 1 (cond11_iff c) (fun h => ⟨k0_dev6 c, k0_dev6_lt c h⟩) (fun h => Fin.ext (dev6_eq c h)) (dn1_iff c) _ rfl _ Q) $$ [HO Hc Hb1]
  · isplitr; · iexact HR
    isplitr; · iexact Hl
    isplitl [HO]; · iexact HO
    isplitl [Hc]; · iexact Hc
    iexact Hb1
  iintro ⟨HO, Hc, Ha1⟩
  iapply (st_fill m ρ c 2 _ rfl _ Q) $$ [Hc Hb2]
  · isplitl [Hc]; · iexact Hc
    iexact Hb2
  iintro ⟨Hc, Hb2⟩
  iapply (st_exchange m ρ K c 2 (cond13_iff c) (fun h => ⟨k0_dev7 c, k0_dev7_lt c h⟩) (fun h => Fin.ext (dev7_eq c h)) (dn2_iff c) _ rfl _ Q) $$ [HO Hc Hb2]
  · isplitr; · iexact HR
    isplitr; · iexact Hl
    isplitl [HO]; · iexact HO
    isplitl [Hc]; · iexact Hc
    iexact Hb2
  iintro ⟨HO, Hc, Ha2⟩
  iapply (st_fill m ρ c 3 _ rfl _ Q) $$ [Hc Hb3]
  · isplitl [Hc]; · iexact Hc
    iexact Hb3
  iintro ⟨Hc, Hb3⟩
  rw [wp_ret]
  imodintro
  iapply Hk
  isplitl [HO]; · iexact HO
  isplitl [Hc]; · iexact Hc
  isplitl [Ha1]; · iexact Ha1
  isplitl [Ha2]; · iexact Ha2
  iexact Hb3

/-! ## Part 4: the exchange at distance 8, and the first three blocks of the result -/

/-- Block `b` of a device's result. -/
def blkVal (c : Dev nD) (b : Fin 8) : FVec F S256x1024 .f32 :=
  match b with
  | 0 => k0_pay13 (k0_pay1 (xstg m ρ c)) (cur m ρ 4 c) (own m ρ c)
  | 1 => k0_pay14 (k0_pay1 (xstg m ρ c)) (cur m ρ 4 c) (own m ρ c)
  | 2 => k0_pay15 (k0_pay1 (xstg m ρ c)) (cur m ρ 4 c) (own m ρ c)
  | 3 => k0_pay16 (k0_pay1 (xstg m ρ c)) (cur m ρ 4 c) (own m ρ c)
  | 4 => k0_pay17 (k0_pay1 (xstg m ρ c)) k0_pay12 (k0_pay16 (k0_pay1 (xstg m ρ c)) (cur m ρ 4 c) (own m ρ c))
  | 5 => k0_pay18 (k0_pay1 (xstg m ρ c)) k0_pay12 (k0_pay16 (k0_pay1 (xstg m ρ c)) (cur m ρ 4 c) (own m ρ c))
  | 6 => k0_pay19 (k0_pay1 (xstg m ρ c)) k0_pay12 (k0_pay16 (k0_pay1 (xstg m ρ c)) (cur m ρ 4 c) (own m ρ c))
  | 7 => k0_pay20 (k0_pay1 (xstg m ρ c)) k0_pay12 (k0_pay16 (k0_pay1 (xstg m ρ c)) (cur m ρ 4 c) (own m ρ c))

theorem part4 (c : Dev nD) (v90 w90 : BitVec 32) (g : FVec F S2048x1024 .f32) (Q : (Σ' (v102 : FVec F S256x256 .bf16), FVec F S256x1024 .f32) → sProp 𝕄) :
    iprop(recs m ρ K ∗ levAts L lv ∗ owing c (oR 3 c) ∗ curPts c (cur m ρ 3 c) ∗ ownPts c (own m ρ c) ∗ between m ρ c 3 ∗ outPts c g)
      ⊢ iprop(((owing c 0 ∗ curPts c (cur m ρ 4 c) ∗ ownPts c (own m ρ c) ∗ after c 3
            ∗ outPts c (putBlk 2 (blkVal m ρ c 2) (putBlk 1 (blkVal m ρ c 1) (putBlk 0 (blkVal m ρ c 0) g))))
          -∗ Q ⟨k0_pay12, blkVal m ρ c 3⟩)
        -∗ wp frame (wpE (defs₀ (F := F)) 𝒱₀ (c : Thread nD τ) none) Set.univ
          (k0_part4 xM (Memref.isWhole_whole _) oM (Memref.isWhole_whole _) wM (Memref.isWhole_whole _) cM (Memref.isWhole_whole _)
            sM (Memref.isWhole_whole _) rM (Memref.isWhole_whole _) cc0_scratch4 cc0_scratch5 c (vw c) (k0_pay1 (xstg m ρ c)) v90 w90) Q) := by
  rw [k0_part4_eq_skeleton]
  unfold k0_part4_skel
  simp only [semSignalWord, semWaitWord, Prog.lift, Prog.bind_op, Prog.bind_ret, Prog.pure_eq_ret]
  iintro ⟨#HR, #Hl, HO, Hc, Hw, Hb3, Ho⟩ Hk
  iapply (st_exchange m ρ K c 3 (cond15_iff c) (fun h => ⟨k0_dev8 c, k0_dev8_lt c h⟩) (fun h => Fin.ext (dev8_eq c h)) (dn3_iff c) _ rfl _ Q) $$ [HO Hc Hb3]
  · isplitr; · iexact HR
    isplitr; · iexact Hl
    isplitl [HO]; · iexact HO
    isplitl [Hc]; · iexact Hc
    iexact Hb3
  iintro ⟨HO, Hc, Ha⟩
  rw [show (3 : Fin 4).val + 1 = 4 from rfl]
  unfold curPts ownPts
  iapply (wp_load 𝒱₀ (c : Thread nD τ) none Set.univ (m := cM) (Finset.subset_univ _)) $$ Hc; iintro Hc
  rw [read_cur]
  iapply (wp_load 𝒱₀ (c : Thread nD τ) none Set.univ (m := wM) (Finset.subset_univ _)) $$ Hw; iintro Hw
  rw [read_own]
  iapply (st_out c 0 _ _ _ Q) $$ Ho; iintro Ho
  iapply (st_out c 1 _ _ _ Q) $$ Ho; iintro Ho
  iapply (st_out c 2 _ _ _ Q) $$ Ho; iintro Ho
  rw [wp_ret, show k0_pay16 (k0_pay1 (xstg m ρ c)) (cur m ρ 4 c) (own m ρ c) = blkVal m ρ c 3 from rfl]
  imodintro
  iapply Hk
  isplitl [HO]; · iexact HO
  isplitl [Hc]; · iexact Hc
  isplitl [Hw]; · iexact Hw
  isplitl [Ha]; · iexact Ha
  iexact Ho

/-! ## Part 5: the other blocks of the result, and the first two sendings finished -/

theorem part5 (c : Dev nD) (g : FVec F S2048x1024 .f32) (Q : BitVec 32 → sProp 𝕄) :
    iprop(recs m ρ K ∗ levAts L lv ∗ owing c 0 ∗ outPts c g ∗ atPos ER (sendCell c 0) 0 ∅ 0 ∗ flying c 0 ∗ atPos ER (sendCell c 1) 0 ∅ 0 ∗ flying c 1)
      ⊢ iprop(((owing c 0
            ∗ outPts c (putBlk 7 (blkVal m ρ c 7) (putBlk 6 (blkVal m ρ c 6) (putBlk 5 (blkVal m ρ c 5) (putBlk 4 (blkVal m ρ c 4) (putBlk 3 (blkVal m ρ c 3) g)))))
            ∗ semVal (sendCell c 0) 0 ∗ (∃ f, sPts c 0 f) ∗ semVal (sendCell c 1) 0 ∗ (∃ f, sPts c 1 f))
          -∗ Q 4#32)
        -∗ wp frame (wpE (defs₀ (F := F)) 𝒱₀ (c : Thread nD τ) none) Set.univ
          (k0_part5 xM (Memref.isWhole_whole _) oM (Memref.isWhole_whole _) wM (Memref.isWhole_whole _) cM (Memref.isWhole_whole _)
            sM (Memref.isWhole_whole _) rM (Memref.isWhole_whole _) cc0_scratch4 cc0_scratch5 (vw c) (k0_pay1 (xstg m ρ c)) k0_pay12 (blkVal m ρ c 3)) Q) := by
  rw [k0_part5_eq_skeleton]
  unfold k0_part5_skel
  simp only [semSignalWord, semWaitWord, Prog.lift, Prog.bind_op, Prog.bind_ret, Prog.pure_eq_ret]
  iintro ⟨#HR, #Hl, HO, Ho, Hs0, Hf0, Hs1, Hf1⟩ Hk
  iapply (st_out c 3 _ _ _ Q) $$ Ho; iintro Ho
  iapply (st_out c 4 _ _ _ Q) $$ Ho; iintro Ho
  iapply (st_out c 5 _ _ _ Q) $$ Ho; iintro Ho
  iapply (st_out c 6 _ _ _ Q) $$ Ho; iintro Ho
  iapply (st_out c 7 _ _ _ Q) $$ Ho; iintro Ho
  iapply (st_drain m ρ K c 0 (up0_iff c) _ Q) $$ [HO Hs0 Hf0]
  · isplitr; · iexact HR
    isplitr; · iexact Hl
    isplitl [HO]; · iexact HO
    isplitl [Hs0]; · iexact Hs0
    iexact Hf0
  iintro ⟨HO, Hz0, Hr0⟩
  iapply (st_drain m ρ K c 1 (up1_iff c) _ Q) $$ [HO Hs1 Hf1]
  · isplitr; · iexact HR
    isplitr; · iexact Hl
    isplitl [HO]; · iexact HO
    isplitl [Hs1]; · iexact Hs1
    iexact Hf1
  iintro ⟨HO, Hz1, Hr1⟩
  rw [wp_ret]
  imodintro
  iapply Hk
  isplitl [HO]; · iexact HO
  isplitl [Ho]; · iexact Ho
  isplitl [Hz0]; · iexact Hz0
  isplitl [Hr0]; · iexact Hr0
  isplitl [Hz1]; · iexact Hz1
  iexact Hr1

end Cert.KernelIdeal.Scan
end
-- ==== Proof.KernelIdeal.Rows.lean ====
/-
# Rows and blocks

The four-row buffers cut into rows and put together again, and the result read off its eight blocks.
-/
module

public import proofs.«01_k».proof.Proof.KernelIdeal.BodyParts
public import Idealize.ShloMosaic.Lib.Pointwise.Index

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Rows -/

theorem mem_sRow (r : Fin 4) (i : S4x1024.Idx) : i ∈ (sRow r).view.set ↔ (i 0).val = r.val := by
  rw [show (sRow r).view.set = (rowR r).set from View.set_slice_whole cc0_scratch2 (rowR r), Rect.mem_set_unit]
  constructor
  · intro h
    have h0 := h 0
    have e1 : (![r.val, 0] : Fin 2 → Nat) 0 = r.val := rfl
    have e2 : S1x1024.size 0 = 1 := rfl
    rw [e1, e2] at h0; omega
  · intro h a
    match a with
    | ⟨0, _⟩ => exact ⟨h.ge, by show (i 0).val < r.val + 1; omega⟩
    | ⟨1, _⟩ => exact ⟨Nat.zero_le _, by show (i 1).val < 0 + 1024; have : (i 1).val < 1024 := (i 1).isLt; omega⟩
theorem mem_rRow (r : Fin 4) (i : S4x1024.Idx) : i ∈ (rRow r).view.set ↔ (i 0).val = r.val := by
  rw [show (rRow r).view.set = (sRow r).view.set from
    (View.set_slice_whole cc0_scratch3 (rowR r)).trans (View.set_slice_whole cc0_scratch2 (rowR r)).symm]
  exact mem_sRow r i

/-- The elements of one row. -/
abbrev sSet (r : Fin 4) : Finset S4x1024.Idx := (sRow r).view.set

theorem sRow_disjoint : ∀ r ∈ (Finset.univ : Finset (Fin 4)), ∀ r' ∈ (Finset.univ : Finset (Fin 4)), r ≠ r' → Disjoint (sSet r) (sSet r') :=
  fun r _ r' _ hne => Finset.disjoint_left.mpr fun i h h' => hne (Fin.ext (((mem_sRow r i).mp h).symm.trans ((mem_sRow r' i).mp h')))
/-- The elements of one row. -/
abbrev rSet (r : Fin 4) : Finset S4x1024.Idx := (rRow r).view.set

theorem rRow_disjoint : ∀ r ∈ (Finset.univ : Finset (Fin 4)), ∀ r' ∈ (Finset.univ : Finset (Fin 4)), r ≠ r' → Disjoint (rSet r) (rSet r') :=
  fun r _ r' _ hne => Finset.disjoint_left.mpr fun i h h' => hne (Fin.ext (((mem_rRow r i).mp h).symm.trans ((mem_rRow r' i).mp h')))
theorem sRow_cover : (Finset.univ : Finset (Fin 4)).biUnion sSet = Finset.univ := by
  ext i
  simp only [Finset.mem_biUnion, Finset.mem_univ, true_and, iff_true]
  exact ⟨(i 0 : Fin 4), (mem_sRow _ i).mpr rfl⟩
theorem rRow_cover : (Finset.univ : Finset (Fin 4)).biUnion rSet = Finset.univ := by
  ext i
  simp only [Finset.mem_biUnion, Finset.mem_univ, true_and, iff_true]
  exact ⟨(i 0 : Fin 4), (mem_rRow _ i).mpr rfl⟩

theorem sPts_eq (c : Dev nD) (r : Fin 4) (f : Buf (Elt F) ((c : Thread nD τ).loc cc0_scratch2)) :
    (sPts c r f : sProp 𝕄) = (((c : Thread nD τ).loc cc0_scratch2) ↦[sSet r]{fullShare} f) := rfl
theorem rPts_eq (c : Dev nD) (r : Fin 4) (f : Buf (Elt F) ((c : Thread nD τ).loc cc0_scratch3)) :
    (rPts c r f : sProp 𝕄) = (((c : Thread nD τ).loc cc0_scratch3) ↦[rSet r]{fullShare} f) := rfl

theorem sPts_some (c : Dev nD) (r : Fin 4) (f : Buf (Elt F) ((c : Thread nD τ).loc cc0_scratch2)) :
    (((c : Thread nD τ).loc cc0_scratch2) ↦[sSet r]{fullShare} f) ⊢ (iprop(∃ f, sPts c r f) : sProp 𝕄) := by
  rw [← sPts_eq]
  iintro H
  iexists f
  iexact H

theorem s_split (c : Dev nD) (f : Buf (Elt F) ((c : Thread nD τ).loc cc0_scratch2)) :
    ((((c : Thread nD τ).loc cc0_scratch2) ↦{fullShare} f) : sProp 𝕄) ⊢ bigSep Finset.univ fun r : Fin 4 => iprop(∃ f, sPts c r f) := by
  have h := pointsTo_biUnion (Ix := Unit) (Name := ℕ) (U := UU) (Lvl := ℕ) (ℓ := (c : Thread nD τ).loc cc0_scratch2) (q := fullShare) (f := f)
    (Finset.univ : Finset (Fin 4)) sSet sRow_disjoint
  rw [sRow_cover] at h
  refine (Entails.of_eq h).trans (bigSep_mono fun r _ => ?_)
  exact sPts_some c r f
theorem rPts_some (c : Dev nD) (r : Fin 4) (f : Buf (Elt F) ((c : Thread nD τ).loc cc0_scratch3)) :
    (((c : Thread nD τ).loc cc0_scratch3) ↦[rSet r]{fullShare} f) ⊢ (iprop(∃ f, rPts c r f) : sProp 𝕄) := by
  rw [← rPts_eq]
  iintro H
  iexists f
  iexact H

theorem r_split (c : Dev nD) (f : Buf (Elt F) ((c : Thread nD τ).loc cc0_scratch3)) :
    ((((c : Thread nD τ).loc cc0_scratch3) ↦{fullShare} f) : sProp 𝕄) ⊢ bigSep Finset.univ fun r : Fin 4 => iprop(∃ f, rPts c r f) := by
  have h := pointsTo_biUnion (Ix := Unit) (Name := ℕ) (U := UU) (Lvl := ℕ) (ℓ := (c : Thread nD τ).loc cc0_scratch3) (q := fullShare) (f := f)
    (Finset.univ : Finset (Fin 4)) rSet rRow_disjoint
  rw [rRow_cover] at h
  refine (Entails.of_eq h).trans (bigSep_mono fun r _ => ?_)
  exact rPts_some c r f
theorem s_join (c : Dev nD) : bigSep Finset.univ (fun r : Fin 4 => iprop(∃ f, sPts c r f))
    ⊢ (iprop(∃ f : Buf (Elt F) ((c : Thread nD τ).loc cc0_scratch2), ((c : Thread nD τ).loc cc0_scratch2) ↦{fullShare} f) : sProp 𝕄) := by
  refine (bigSep_exists_pi (Y := fun _ => Buf (Elt F) ((c : Thread nD τ).loc cc0_scratch2)) Finset.univ fun r f => (sPts c r f : sProp 𝕄)).trans ?_
  have hj (fs : Fin 4 → Buf (Elt F) ((c : Thread nD τ).loc cc0_scratch2)) := pointsTo_biUnion_join (Ix := Unit) (Name := ℕ) (U := UU) (Lvl := ℕ)
    (ℓ := (c : Thread nD τ).loc cc0_scratch2) (q := fullShare) (Finset.univ : Finset (Fin 4)) sSet fs (fs 0) sRow_disjoint
  rw [sRow_cover] at hj
  iintro ⟨%fs, H⟩
  ihave H := (show bigSep Finset.univ (fun r : Fin 4 => ((sPts c r (fs r)) : sProp 𝕄))
      ⊢ bigSep Finset.univ fun r : Fin 4 => (((c : Thread nD τ).loc cc0_scratch2) ↦[sSet r]{fullShare} fs r) from
    Entails.of_eq (bigSep_congr fun r _ => sPts_eq c r (fs r))) $$ H
  ihave ⟨%g, -, H⟩ := (hj fs) $$ H
  iexists g; iexact H
theorem r_join (c : Dev nD) : bigSep Finset.univ (fun r : Fin 4 => iprop(∃ f, rPts c r f))
    ⊢ (iprop(∃ f : Buf (Elt F) ((c : Thread nD τ).loc cc0_scratch3), ((c : Thread nD τ).loc cc0_scratch3) ↦{fullShare} f) : sProp 𝕄) := by
  refine (bigSep_exists_pi (Y := fun _ => Buf (Elt F) ((c : Thread nD τ).loc cc0_scratch3)) Finset.univ fun r f => (rPts c r f : sProp 𝕄)).trans ?_
  have hj (fs : Fin 4 → Buf (Elt F) ((c : Thread nD τ).loc cc0_scratch3)) := pointsTo_biUnion_join (Ix := Unit) (Name := ℕ) (U := UU) (Lvl := ℕ)
    (ℓ := (c : Thread nD τ).loc cc0_scratch3) (q := fullShare) (Finset.univ : Finset (Fin 4)) rSet fs (fs 0) rRow_disjoint
  rw [rRow_cover] at hj
  iintro ⟨%fs, H⟩
  ihave H := (show bigSep Finset.univ (fun r : Fin 4 => ((rPts c r (fs r)) : sProp 𝕄))
      ⊢ bigSep Finset.univ fun r : Fin 4 => (((c : Thread nD τ).loc cc0_scratch3) ↦[rSet r]{fullShare} fs r) from
    Entails.of_eq (bigSep_congr fun r _ => rPts_eq c r (fs r))) $$ H
  ihave ⟨%g, -, H⟩ := (hj fs) $$ H
  iexists g; iexact H

/-! ## Blocks -/

/-- The index inside its block. -/
def inBlk (i : S2048x1024.Idx) : S256x1024.Idx := ix2 (n0 := 256) (n1 := 1024) ⟨(i 0).val % 256, Nat.mod_lt _ (by decide)⟩ (i 1)
/-- The block an index lies in. -/
def blkOf (i : S2048x1024.Idx) : Fin 8 := ⟨(i 0).val / 256, by have : (i 0).val < 2048 := (i 0).isLt; omega⟩

theorem blk_idx (i : S2048x1024.Idx) : (blkR (blkOf i)).toLoadRect.idx (inBlk i) = i := by
  funext a
  refine Fin.ext ?_
  match a with
  | ⟨0, _⟩ =>
    show 256 * ((i 0).val / 256) + 1 * ((i 0).val % 256) = (i 0).val
    omega
  | ⟨1, _⟩ => show 0 + 1 * (i 1).val = (i 1).val; omega
theorem blkOf_idx (b : Fin 8) (j : S256x1024.Idx) : blkOf ((blkR b).toLoadRect.idx j) = b := by
  refine Fin.ext ?_
  show (256 * b.val + 1 * (j 0).val) / 256 = b.val
  have : (j 0).val < 256 := (j 0).isLt
  omega

/-- Block `b` of the result, looked at. -/
abbrev blkV (b : Fin 8) : View sig .tc .vmem S256x1024 .f32 := (View.whole cc0_stg1_0).slice (blkR b)

theorem putBlk_at (b : Fin 8) (w : FVec F S256x1024 .f32) (f : FVec F S2048x1024 .f32) (i : S2048x1024.Idx) :
    putBlk b w f i = if blkOf i = b then w (inBlk i) else f i := by
  show (blkV b).write (Elt F) f w Finset.univ i = _
  by_cases h : blkOf i = b
  · rw [if_pos h]
    subst h
    have e : (blkV (blkOf i)).emb (inBlk i) = i := blk_idx i
    have hw := View.write_emb_of_mem (Val := Elt F) (v := blkV (blkOf i)) f w (Finset.mem_univ (inBlk i))
    rw [e] at hw
    exact hw
  · rw [if_neg h]
    refine View.write_of_not_mem (Val := Elt F) (v := blkV b) f w _ ?_
    intro hm
    obtain ⟨j, -, hj⟩ := Finset.mem_map.mp hm
    exact h (by rw [← hj]; exact blkOf_idx b j)

/-- The result on device `c`. -/
def outAt (c : Dev nD) : FVec F S2048x1024 .f32 := fun i => blkVal m ρ c (blkOf i) (inBlk i)

theorem put_all (c : Dev nD) (g : FVec F S2048x1024 .f32) :
    putBlk 7 (blkVal m ρ c 7) (putBlk 6 (blkVal m ρ c 6) (putBlk 5 (blkVal m ρ c 5) (putBlk 4 (blkVal m ρ c 4) (putBlk 3 (blkVal m ρ c 3)
      (putBlk 2 (blkVal m ρ c 2) (putBlk 1 (blkVal m ρ c 1) (putBlk 0 (blkVal m ρ c 0) g))))))) = outAt m ρ c := by
  funext i
  simp only [putBlk_at]
  show _ = blkVal m ρ c (blkOf i) (inBlk i)
  generalize blkOf i = b
  match b with
  | 0 => rfl
  | 1 => rfl
  | 2 => rfl
  | 3 => rfl
  | 4 => rfl
  | 5 => rfl
  | 6 => rfl
  | 7 => rfl

end Cert.KernelIdeal.Scan
end
-- ==== Proof.KernelIdeal.Body.lean ====
/-
# The whole body of the scan

What a device takes into its body and what it has after it, and the library's obligation for the body.
-/
module

public import proofs.«01_k».proof.Proof.KernelIdeal.Rows

@[expose] public section

set_option maxHeartbeats 4000000

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ)

/-- A device's positions: every one of its cells at its start. -/
def posns (c : Dev nD) : sProp 𝕄 :=
  iprop(atPos ER (barCell c) 0 ∅ 0 ∗ (bigSep Finset.univ fun r : Fin 4 => atPos ER (sendCell c r) 0 ∅ 0) ∗ bigSep Finset.univ fun r : Fin 4 => fresh c r)
/-- The duties a device pays. -/
def pays (c : Dev nD) : sProp 𝕄 :=
  iprop((bigSep Finset.univ fun r : Fin 4 => dutyTok ER (barCell (lo r c)) 0 r) ∗ bigSep Finset.univ fun r : Fin 4 => toks c r)
/-- The units and the landings a device may wait for. -/
def creds (c : Dev nD) : sProp 𝕄 :=
  iprop((bigSep Finset.univ fun r : Fin 4 => cred (Bw r c)) ∗ bigSep Finset.univ fun r : Fin 4 => cred (Rw r c))
/-- Every counter of a device at zero. -/
def zeros (c : Dev nD) : sProp 𝕄 :=
  iprop(semVal (barCell c) 0 ∗ (bigSep Finset.univ fun r : Fin 4 => semVal (sendCell c r) 0) ∗ bigSep Finset.univ fun r : Fin 4 => semVal (recvCell c r) 0)
/-- The working buffers, at any contents. -/
def work (c : Dev nD) : sProp 𝕄 :=
  iprop((∃ v, ownPts c v) ∗ (∃ v, curPts c v) ∗ (bigSep Finset.univ fun r : Fin 4 => iprop(∃ f, sPts c r f)) ∗ bigSep Finset.univ fun r : Fin 4 => iprop(∃ f, rPts c r f))

theorem ready_intro (c : Dev nD) (r : Fin 4) :
    iprop(toks c r ∗ kept c r ∗ cred (Rw r c) ∗ fresh c r ∗ (∃ f, sPts c r f)) ⊢ (ready c r : sProp 𝕄) := by
  unfold ready; exact Entails.refl _
theorem after_elim (c : Dev nD) (r : Fin 4) :
    (after c r : sProp 𝕄) ⊢ iprop(flying c r ∗ semVal (recvCell c r) 0 ∗ (∃ f, rPts c r f)) := by
  unfold after; exact Entails.refl _

abbrev bodyProg : Prog (TpuEff nD τ sig (Elt F) Λ₀ .tc) PUnit :=
  cc0_body xM (Memref.isWhole_whole _) oM (Memref.isWhole_whole _) wM (Memref.isWhole_whole _) cM (Memref.isWhole_whole _)
    sM (Memref.isWhole_whole _) rM (Memref.isWhole_whole _) cc0_scratch4 cc0_scratch5

theorem body_run (c : Dev nD) (g : FVec F S2048x1024 .f32) (Q : PUnit → sProp 𝕄) :
    iprop(recs m ρ K ∗ posns c ∗ pays c ∗ creds c ∗ levAts L lv ∗ work c ∗ xPts m ρ c ∗ owing c (O₀ c) ∗ outPts c g)
      ⊢ iprop(((work c ∗ zeros c ∗ xPts m ρ c ∗ owing c 0 ∗ outPts c (outAt m ρ c)) -∗ Q ⟨⟩)
        -∗ wp frame (wpE (defs₀ (F := F)) 𝒱₀ (c : Thread nD τ) none) Set.univ bodyProg Q) := by
  unfold bodyProg
  rw [cc0_body_eq_skeleton]
  unfold cc0_body_skel posns pays creds work zeros
  iintro ⟨#HR, ⟨Hb, Hs, Hf⟩, ⟨Htb, Ht⟩, ⟨Hcb, Hcr⟩, #Hl, ⟨Hw, Hc, Hss, Hrr⟩, Hx, HO, Ho⟩ Hk
  ihave ⟨Hs0, Hs1, Hs2, Hs3⟩ := (four_split (fun r => atPos ER (sendCell c r) 0 ∅ 0)) $$ Hs
  ihave ⟨Hf0, Hf1, Hf2, Hf3⟩ := (four_split (fun r => fresh (F := F) c r)) $$ Hf
  ihave ⟨Htb0, Htb1, Htb2, Htb3⟩ := (four_split (fun r => dutyTok ER (barCell (lo r c)) 0 r)) $$ Htb
  ihave ⟨Ht0, Ht1, Ht2, Ht3⟩ := (four_split (fun r => toks (F := F) c r)) $$ Ht
  ihave ⟨Hcb0, Hcb1, Hcb2, Hcb3⟩ := (four_split (fun r => cred (Bw r c))) $$ Hcb
  ihave ⟨Hcr0, Hcr1, Hcr2, Hcr3⟩ := (four_split (fun r => cred (Rw r c))) $$ Hcr
  ihave ⟨Hss0, Hss1, Hss2, Hss3⟩ := (four_split (fun r => iprop(∃ f, sPts (F := F) c r f))) $$ Hss
  ihave ⟨Hrr0, Hrr1, Hrr2, Hrr3⟩ := (four_split (fun r => iprop(∃ f, rPts (F := F) c r f))) $$ Hrr
  ihave Hb := (barAt_zero c) $$ Hb
  rw [wp_bind]
  iapply (part1 m ρ K c _) $$ [Hx Hw Hc Htb0 Htb1 Htb2 HO Hrr0 Hrr1 Hrr2]
  · isplitr; · iexact HR
    isplitl [Hx]; · iexact Hx
    isplitl [Hw]; · iexact Hw
    isplitl [Hc]; · iexact Hc
    isplitl [Htb0]; · iexact Htb0
    isplitl [Htb1]; · iexact Htb1
    isplitl [Htb2]; · iexact Htb2
    isplitl [HO]; · iexact HO
    isplitl [Hrr0]; · iexact Hrr0
    isplitl [Hrr1]; · iexact Hrr1
    iexact Hrr2
  iintro %v31 ⟨Hx, Hw, Hc, HO, Hk0, Hk1, Hk2⟩
  rw [wp_bind]
  iapply (part2 m ρ K c v31 _) $$ [Hc Htb3 HO Hrr3 Hb Hcb0 Hcb1 Hcb2 Hcb3 Ht0 Hk0 Hcr0 Hf0 Hss0]
  · isplitr; · iexact HR
    isplitr; · iexact Hl
    isplitl [Hc]; · iexact Hc
    isplitl [Htb3]; · iexact Htb3
    isplitl [HO]; · iexact HO
    isplitl [Hrr3]; · iexact Hrr3
    isplitl [Hb]; · iexact Hb
    isplitl [Hcb0]; · iexact Hcb0
    isplitl [Hcb1]; · iexact Hcb1
    isplitl [Hcb2]; · iexact Hcb2
    isplitl [Hcb3]; · iexact Hcb3
    iapply (ready_intro c 0)
    isplitl [Ht0]; · iexact Ht0
    isplitl [Hk0]; · iexact Hk0
    isplitl [Hcr0]; · iexact Hcr0
    isplitl [Hf0]; · iexact Hf0
    iexact Hss0
  iintro ⟨HO, Hz, Hc, Hk3, Ha0, Hg1, Hg2, Hg3⟩
  ihave H1 := (before_intro (F := F) c 1) $$ [Hg1 Ht1 Hk1 Hcr1 Hf1 Hss1]
  · isplitl [Hg1]; · iexact Hg1
    iapply (ready_intro c 1)
    isplitl [Ht1]; · iexact Ht1
    isplitl [Hk1]; · iexact Hk1
    isplitl [Hcr1]; · iexact Hcr1
    isplitl [Hf1]; · iexact Hf1
    iexact Hss1
  ihave H2 := (before_intro (F := F) c 2) $$ [Hg2 Ht2 Hk2 Hcr2 Hf2 Hss2]
  · isplitl [Hg2]; · iexact Hg2
    iapply (ready_intro c 2)
    isplitl [Ht2]; · iexact Ht2
    isplitl [Hk2]; · iexact Hk2
    isplitl [Hcr2]; · iexact Hcr2
    isplitl [Hf2]; · iexact Hf2
    iexact Hss2
  ihave H3 := (before_intro (F := F) c 3) $$ [Hg3 Ht3 Hk3 Hcr3 Hf3 Hss3]
  · isplitl [Hg3]; · iexact Hg3
    iapply (ready_intro c 3)
    isplitl [Ht3]; · iexact Ht3
    isplitl [Hk3]; · iexact Hk3
    isplitl [Hcr3]; · iexact Hcr3
    isplitl [Hf3]; · iexact Hf3
    iexact Hss3
  rw [wp_bind]
  iapply (part3 m ρ K c _) $$ [HO Hc H1 H2 H3]
  · isplitr; · iexact HR
    isplitr; · iexact Hl
    isplitl [HO]; · iexact HO
    isplitl [Hc]; · iexact Hc
    isplitl [H1]; · iexact H1
    isplitl [H2]; · iexact H2
    iexact H3
  iintro %v ⟨HO, Hc, Ha1, Ha2, H3⟩
  rcases v with ⟨v90, w90⟩
  rw [wp_bind]
  iapply (part4 m ρ K c v90 w90 g _) $$ [HO Hc Hw H3 Ho]
  · isplitr; · iexact HR
    isplitr; · iexact Hl
    isplitl [HO]; · iexact HO
    isplitl [Hc]; · iexact Hc
    isplitl [Hw]; · iexact Hw
    isplitl [H3]; · iexact H3
    iexact Ho
  iintro ⟨HO, Hc, Hw, Ha3, Ho⟩
  ihave ⟨Hy0, Hv0, Hr0⟩ := (after_elim c 0) $$ Ha0
  ihave ⟨Hy1, Hv1, Hr1⟩ := (after_elim c 1) $$ Ha1
  ihave ⟨Hy2, Hv2, Hr2⟩ := (after_elim c 2) $$ Ha2
  ihave ⟨Hy3, Hv3, Hr3⟩ := (after_elim c 3) $$ Ha3
  rw [wp_bind]
  iapply (part5 m ρ K c _ _) $$ [HO Ho Hs0 Hy0 Hs1 Hy1]
  · isplitr; · iexact HR
    isplitr; · iexact Hl
    isplitl [HO]; · iexact HO
    isplitl [Ho]; · iexact Ho
    isplitl [Hs0]; · iexact Hs0
    isplitl [Hy0]; · iexact Hy0
    isplitl [Hs1]; · iexact Hs1
    iexact Hy1
  iintro ⟨HO, Ho, Hu0, Hq0, Hu1, Hq1⟩
  ihave Ho := (Entails.of_eq (congrArg (outPts c) (put_all m ρ c g))) $$ Ho
  simp only [Prog.lift, Prog.bind_op, Prog.bind_ret, Prog.pure_eq_ret]
  iapply (st_drain m ρ K c 2 (up2_iff c) _ Q) $$ [HO Hs2 Hy2]
  · isplitr; · iexact HR
    isplitr; · iexact Hl
    isplitl [HO]; · iexact HO
    isplitl [Hs2]; · iexact Hs2
    iexact Hy2
  iintro ⟨HO, Hu2, Hq2⟩
  iapply (st_drain m ρ K c 3 (up3_iff c) _ Q) $$ [HO Hs3 Hy3]
  · isplitr; · iexact HR
    isplitr; · iexact Hl
    isplitl [HO]; · iexact HO
    isplitl [Hs3]; · iexact Hs3
    iexact Hy3
  iintro ⟨HO, Hu3, Hq3⟩
  rw [wp_ret]
  imodintro
  iapply Hk
  isplitl [Hw Hc Hq0 Hq1 Hq2 Hq3 Hr0 Hr1 Hr2 Hr3]
  · isplitl [Hw]; · iexists _; iexact Hw
    isplitl [Hc]; · iexists _; iexact Hc
    isplitl [Hq0 Hq1 Hq2 Hq3]
    · iapply (four_join (fun r => iprop(∃ f, sPts (F := F) c r f)))
      isplitl [Hq0]; · iexact Hq0
      isplitl [Hq1]; · iexact Hq1
      isplitl [Hq2]; · iexact Hq2
      iexact Hq3
    · iapply (four_join (fun r => iprop(∃ f, rPts (F := F) c r f)))
      isplitl [Hr0]; · iexact Hr0
      isplitl [Hr1]; · iexact Hr1
      isplitl [Hr2]; · iexact Hr2
      iexact Hr3
  isplitl [Hz Hu0 Hu1 Hu2 Hu3 Hv0 Hv1 Hv2 Hv3]
  · isplitl [Hz]; · iexact Hz
    isplitl [Hu0 Hu1 Hu2 Hu3]
    · iapply (four_join (fun r => semVal (sendCell c r) 0))
      isplitl [Hu0]; · iexact Hu0
      isplitl [Hu1]; · iexact Hu1
      isplitl [Hu2]; · iexact Hu2
      iexact Hu3
    · iapply (four_join (fun r => semVal (recvCell c r) 0))
      isplitl [Hv0]; · iexact Hv0
      isplitl [Hv1]; · iexact Hv1
      isplitl [Hv2]; · iexact Hv2
      iexact Hv3
  isplitl [Hx]; · iexact Hx
  isplitl [HO]; · iexact HO
  iexact Ho

end Cert.KernelIdeal.Scan
end
-- ==== Proof.KernelIdeal.Launch.lean ====
/-
# The launch of the scan

The cells, the tokens and the credit dealt to the devices at the start, the obligation of the body, and the run of the whole program.
-/
module

public import proofs.«01_k».proof.Proof.KernelIdeal.Body
public import Idealize.ShloMosaic.Lib.Pipeline.CollectiveSegs

@[expose] public section

set_option maxHeartbeats 1000000

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

/-- What a device holds when its body starts, beside the working buffers. -/
def start (c : Dev nD) : sProp 𝕄 := iprop((∃ K, recs m ρ K ∗ posns c ∗ pays c) ∗ creds c ∗ levAts L lv)

def Φ₀ (c : Dev nD) : sProp 𝕄 := iprop(start m ρ c ∗ work c)
def Φ₁ (c : Dev nD) : sProp 𝕄 := iprop(work c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_x (t : Fin cfg0.N) : (cfg0.win (0 : Fin 2)).fetch t = true := by rw [fin_N0 t]; rfl

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ c ∗ (dats m ρ 0 c).owesAt () t0_0.succ ∗ stg c cc0_stg0_0 (xstg m ρ c) ∗ stg c cc0_stg1_0 (outAt m ρ c))

theorem owing_of (c : Dev nD) : (dats m ρ 0 c).owesAt () t0_0.castSucc ⊢ (owing c (O₀ c) : sProp 𝕄) := by
  unfold Dat.owesAt Pipeline.owesWithin owing
  rw [show (dats m ρ 0 c).owed t0_0.castSucc = O₀ c from rfl]
  iintro ⟨%W, -, H⟩
  iexists W; iexact H
theorem owing_to (c : Dev nD) : (owing c 0 : sProp 𝕄) ⊢ (dats m ρ 0 c).owesAt () t0_0.succ := by
  unfold Dat.owesAt Pipeline.owesWithin owing
  rw [show (dats m ρ 0 c).owed t0_0.succ = 0 from rfl]
  iintro ⟨%W, H⟩
  iexists W
  isplitr; · ipureintro; exact fun _ _ => Or.inl trivial
  iexact H

theorem body_ok (c : Dev nD) : bodyPre m ρ c ⊢ wp frame (wpE (defs₀ (F := F)) 𝒱₀ (c : Thread nD τ) none) Set.univ bodyProg (fun _ => bodyPost m ρ c) := by
  unfold bodyPre Φ₀ start
  iintro ⟨⟨⟨⟨%K, HR, Hp, Ht⟩, Hc, Hl⟩, Hw⟩, Ho, ⟨%d0, %g0, %hg0, Hx⟩, ⟨%d1, %g1, %hg1, Hout⟩⟩
  have hx : g0 = xstg m ρ c := by rw [hg0]; unfold Dat.before; rw [if_pos (fetch_x t0_0)]; rfl
  subst hx
  ihave HO := (owing_of m ρ c) $$ Ho
  iapply (body_run m ρ K c g1 (fun _ => bodyPost m ρ c)) $$ [HR Hp Ht Hc Hl Hw Hx HO Hout]
  · isplitl [HR]; · iexact HR
    isplitl [Hp]; · iexact Hp
    isplitl [Ht]; · iexact Ht
    isplitl [Hc]; · iexact Hc
    isplitl [Hl]; · iexact Hl
    isplitl [Hw]; · iexact Hw
    isplitl [Hx]; · unfold xPts; iexact Hx
    isplitl [HO]; · iexact HO
    unfold outPts; iexact Hout
  unfold bodyPost Φ₁ xPts outPts
  iintro ⟨Hw, Hz, Hx, HO, Hout⟩
  isplitl [Hw Hz]
  · isplitl [Hw]; · iexact Hw
    iexact Hz
  isplitl [HO]; · iapply (owing_to m ρ c); iexact HO
  isplitl [Hx]
  · iexists _; isplitr; · (ipureintro; rfl)
    iexact Hx
  iexists _; isplitr; · (ipureintro; rfl)
  iexact Hout

set_option maxRecDepth 4000 in
theorem body_obligation (c : Dev nD) : BodyObligation (dats (F := F) m ρ 0 c) (defs₀ (F := F)) 𝒱₀ () Set.univ := fun t => by
  rw [fin_N0 t]
  rw [bigSep_W, bigSep_W]
  simp only [owns_whole]
  exact body_ok m ρ c

/-! ## Cells and tokens -/

theorem cells_eq (Φ : CellIx → sProp 𝕄) :
    bigSep Finset.univ Φ = iprop(Φ none ∗ (bigSep Finset.univ fun r : Fin 4 => Φ (some (false, r))) ∗ bigSep Finset.univ fun r : Fin 4 => Φ (some (true, r))) := by
  rw [bigSep_univ_eq_bigSepL ([none, some (false, 0), some (false, 1), some (false, 2), some (false, 3), some (true, 0), some (true, 1), some (true, 2), some (true, 3)] : List CellIx)
      (by decide) (by decide) Φ]
  show iprop(Φ none ∗ Φ (some (false, 0)) ∗ Φ (some (false, 1)) ∗ Φ (some (false, 2)) ∗ Φ (some (false, 3))
    ∗ Φ (some (true, 0)) ∗ Φ (some (true, 1)) ∗ Φ (some (true, 2)) ∗ Φ (some (true, 3))) = _
  refine BI.Entails.antisymm (show _ ⊢ (_ : sProp 𝕄) from ?_) (show _ ⊢ (_ : sProp 𝕄) from ?_)
  · iintro ⟨H, H0, H1, H2, H3, J0, J1, J2, J3⟩
    isplitl [H]; · iexact H
    isplitl [H0 H1 H2 H3]
    · iapply (four_join (fun r => Φ (some (false, r))))
      isplitl [H0]; · iexact H0
      isplitl [H1]; · iexact H1
      isplitl [H2]; · iexact H2
      iexact H3
    · iapply (four_join (fun r => Φ (some (true, r))))
      isplitl [J0]; · iexact J0
      isplitl [J1]; · iexact J1
      isplitl [J2]; · iexact J2
      iexact J3
  · iintro ⟨H, Hs, Hr⟩
    ihave ⟨H0, H1, H2, H3⟩ := (four_split (fun r => Φ (some (false, r)))) $$ Hs
    ihave ⟨J0, J1, J2, J3⟩ := (four_split (fun r => Φ (some (true, r)))) $$ Hr
    isplitl [H]; · iexact H
    isplitl [H0]; · iexact H0
    isplitl [H1]; · iexact H1
    isplitl [H2]; · iexact H2
    isplitl [H3]; · iexact H3
    isplitl [J0]; · iexact J0
    isplitl [J1]; · iexact J1
    isplitl [J2]; · iexact J2
    iexact J3

/-- The kernel's own semaphores, the sendings' first. -/
abbrev osem : Fin 8 → SemLoc sig
  | 0 => .dma (sendQ 0) | 1 => .dma (sendQ 1) | 2 => .dma (sendQ 2) | 3 => .dma (sendQ 3)
  | 4 => .dma (recvQ 0) | 5 => .dma (recvQ 1) | 6 => .dma (recvQ 2) | 7 => .dma (recvQ 3)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × CellIx → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]
def scanCells : Finset (GSem nD τ sig) := Finset.univ.map ⟨kcell, kcell_injective⟩

/-- The duties of a device's own cells: a barrier unit, a sending and a landing at each distance. -/
abbrev dutyOf (k : Fin 3 × Fin 4) : SemLoc sig × Fin 4 := match k.1 with
  | 0 => (.reg barS, k.2) | 1 => (.dma (sendQ k.2), 0) | 2 => (.dma (recvQ k.2), 0)
theorem dutyOf_injective : Function.Injective dutyOf := by decide
abbrev tokOf (p : Dev nD × (Fin 3 × Fin 4)) : GSem nD τ sig × ℕ × Fin 4 := (((p.1 : Thread nD τ), (dutyOf p.2).1), 0, (dutyOf p.2).2)
theorem tokOf_injective : Function.Injective tokOf := by
  rintro ⟨c, k⟩ ⟨c', k'⟩ h
  have h1 : c = c' := by have := congrArg (fun x : GSem nD τ sig × ℕ × Fin 4 => x.1.1.1) h; exact this
  have h2 : k = k' := dutyOf_injective (congrArg (fun x : GSem nD τ sig × ℕ × Fin 4 => (x.1.2, x.2.2)) h)
  rw [h1, h2]
def scanToks : Finset (GSem nD τ sig × ℕ × Fin 4) := Finset.univ.map ⟨tokOf, tokOf_injective⟩

def u₀ : UU :=
  (initOf (Pipeline.cells cfgs cellOf_inj) (Pipeline.launchToks cfgs cellOf_inj), initOf scanCells scanToks)

/-- The tokens of a device's own cells. -/
def minted (c : Dev nD) : sProp 𝕄 :=
  iprop((bigSep Finset.univ fun r : Fin 4 => dutyTok ER (barCell c) 0 r) ∗ (bigSep Finset.univ fun r : Fin 4 => dutyTok ER (sendCell c r) 0 0)
    ∗ bigSep Finset.univ fun r : Fin 4 => dutyTok ER (recvCell c r) 0 0)

def G (c : Dev nD) : sProp 𝕄 :=
  iprop((bigSep Finset.univ fun k : CellIx => roundState ER (Rd m ρ) (kcell (c, k)) 0)
    ∗ (bigSep Finset.univ fun k : CellIx => iprop(atPos ER (kcell (c, k)) 0 ∅ 0 ∗ reached ER (kcell (c, k)) 0)) ∗ minted c)
def G' (c : Dev nD) : sProp 𝕄 := iprop(∃ K, recs m ρ K ∗ posns c ∗ pays c)

theorem three_eq (Φ : Fin 3 → sProp 𝕄) : bigSep Finset.univ Φ = iprop(Φ 0 ∗ Φ 1 ∗ Φ 2) :=
  bigSep_univ_eq_bigSepL [0, 1, 2] (by decide) (by decide) Φ

theorem fund_scan : BI.own (ER (initOf scanCells scanToks)) ⊢ (|==> bigSep Finset.univ (G m ρ) : sProp 𝕄) := by
  have hX (Φ : GSem nD τ sig → sProp 𝕄) : bigSep scanCells Φ = bigSep Finset.univ fun c : Dev nD => bigSep Finset.univ fun k : CellIx => Φ (kcell (c, k)) := by
    unfold scanCells; rw [bigSep_map, bigSep_univ_prod]; rfl
  have hT : bigSep scanToks (fun x => (dutyTok ER x.1 x.2.1 x.2.2 : sProp 𝕄)) = bigSep Finset.univ fun c : Dev nD => minted c := by
    unfold scanToks; rw [bigSep_map, bigSep_univ_prod]
    exact bigSep_congr fun c _ => by unfold minted; rw [bigSep_univ_prod, three_eq]; rfl
  iintro HX
  imod (Rounds.fund ER (Rd m ρ) scanCells scanToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun r : Fin 4 => semVal (sendCell c r) 0) ∗ bigSep Finset.univ fun r : Fin 4 => semVal (recvCell c r) 0) := by
  rw [Pipeline.ownSems0_eq_of_list c osem [0, 1, 2, 3, 4, 5, 6, 7] (by decide) (by decide)]
  show iprop(semVal (sendCell c 0) 0 ∗ semVal (sendCell c 1) 0 ∗ semVal (sendCell c 2) 0 ∗ semVal (sendCell c 3) 0
    ∗ semVal (recvCell c 0) 0 ∗ semVal (recvCell c 1) 0 ∗ semVal (recvCell c 2) 0 ∗ semVal (recvCell c 3) 0) = _
  refine BI.Entails.antisymm (show _ ⊢ (_ : sProp 𝕄) from ?_) (show _ ⊢ (_ : sProp 𝕄) from ?_)
  · iintro ⟨H0, H1, H2, H3, J0, J1, J2, J3⟩
    isplitl [H0 H1 H2 H3]
    · iapply (four_join (fun r => semVal (sendCell c r) 0))
      isplitl [H0]; · iexact H0
      isplitl [H1]; · iexact H1
      isplitl [H2]; · iexact H2
      iexact H3
    · iapply (four_join (fun r => semVal (recvCell c r) 0))
      isplitl [J0]; · iexact J0
      isplitl [J1]; · iexact J1
      isplitl [J2]; · iexact J2
      iexact J3
  · iintro ⟨Hs, Hr⟩
    ihave ⟨H0, H1, H2, H3⟩ := (four_split (fun r => semVal (sendCell c r) 0)) $$ Hs
    ihave ⟨J0, J1, J2, J3⟩ := (four_split (fun r => semVal (recvCell c r) 0)) $$ Hr
    isplitl [H0]; · iexact H0
    isplitl [H1]; · iexact H1
    isplitl [H2]; · iexact H2
    isplitl [H3]; · iexact H3
    isplitl [J0]; · iexact J0
    isplitl [J1]; · iexact J1
    isplitl [J2]; · iexact J2
    iexact J3
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems0_eq, unscopedSems0_eq, cells_eq]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ minted c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Each device paired with each distance, moved down by that distance. -/
def downE : Dev nD × Fin 4 ≃ Dev nD × Fin 4 :=
  ⟨fun p => (lo p.2 p.1, p.2), fun p => (hi p.2 p.1, p.2), fun p => Prod.ext (hi_lo p.2 p.1) rfl, fun p => Prod.ext (lo_hi p.2 p.1) rfl⟩

theorem move_down (A : Dev nD → Fin 4 → sProp 𝕄) :
    (bigSep Finset.univ fun c => bigSep Finset.univ fun r => A c r) = bigSep Finset.univ fun c => bigSep Finset.univ fun r => A (lo r c) r := by
  rw [← bigSep_univ_prod (fun p : Dev nD × Fin 4 => A p.1 p.2), ← bigSep_univ_prod (fun p : Dev nD × Fin 4 => A (lo p.2 p.1) p.2)]
  exact bigSep_univ_equiv downE (fun p : Dev nD × Fin 4 => A p.1 p.2)
theorem move_up (A : Dev nD → Fin 4 → sProp 𝕄) :
    (bigSep Finset.univ fun c => bigSep Finset.univ fun r => A c r) = bigSep Finset.univ fun c => bigSep Finset.univ fun r => A (hi r c) r := by
  rw [← bigSep_univ_prod (fun p : Dev nD × Fin 4 => A p.1 p.2), ← bigSep_univ_prod (fun p : Dev nD × Fin 4 => A (hi p.2 p.1) p.2)]
  exact bigSep_univ_equiv downE.symm (fun p : Dev nD × Fin 4 => A p.1 p.2)

/-- Every token goes to the device that pays its duty. -/
theorem toks_around : (bigSep Finset.univ fun c : Dev nD => (minted c : sProp 𝕄)) ⊢ bigSep Finset.univ fun c : Dev nD => pays c := by
  unfold minted pays toks
  simp only [bigSep_sep']
  rw [move_down (fun c r => (dutyTok ER (barCell c) 0 r : sProp 𝕄)), move_up (fun c r => (dutyTok ER (recvCell c r) 0 0 : sProp 𝕄))]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem hold_intro (K : Dev nD × CellIx → ℕ) (c : Dev nD) :
    iprop(recs m ρ K ∗ (bigSep Finset.univ fun k : CellIx => atPos ER (kcell (c, k)) 0 ∅ 0) ∗ pays c) ⊢ G' m ρ c := by
  rw [cells_eq]
  unfold G' posns fresh
  iintro ⟨HR, Hat, Hp⟩
  iexists K
  isplitl [HR]; · iexact HR
  isplitl [Hat]; · iexact Hat
  iexact Hp

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ minted c) : sProp 𝕄)
      ⊢ bigSep Finset.univ (G' m ρ) := by
  rw [bigSep_sep', bigSep_sep', ← bigSep_univ_prod (fun p : Dev nD × CellIx => iprop(∃ κ : ℕ, cellInv ER (Rd m ρ) κ (kcell p))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun p : Dev nD × CellIx => (reached ER (kcell p) 0 : sProp 𝕄))]
  iintro ⟨HI, ⟨Hat, HR⟩, Htok⟩
  ihave HK := (BI.bigSep_exists_pi Finset.univ (fun (p : Dev nD × CellIx) (κ : ℕ) => (cellInv ER (Rd m ρ) κ (kcell p) : sProp 𝕄))) $$ HI
  icases HK with ⟨%K, HI⟩
  ihave Htk := (toks_around (F := F)) $$ Htok
  ihave #Hrec := (show iprop((bigSep Finset.univ fun p : Dev nD × CellIx => cellInv ER (Rd m ρ) (K p) (kcell p)) ∗ bigSep Finset.univ fun p : Dev nD × CellIx => reached ER (kcell p) 0)
      ⊢ recs m ρ K from by unfold recs; rw [bigSep_sep']) $$ [HI HR]
  · isplitl [HI] <;> iassumption
  iapply (bigSep_with_persistent (R := recs m ρ K) (Φ := fun c => iprop((bigSep Finset.univ fun k : CellIx => atPos ER (kcell (c, k)) 0 ∅ 0) ∗ pays c))
    fun c _ => hold_intro m ρ K c)
  isplitr; · iexact Hrec
  iapply (Entails.of_eq (bigSep_sep' Finset.univ (fun c : Dev nD => bigSep Finset.univ fun k : CellIx => (atPos ER (kcell (c, k)) 0 ∅ 0 : sProp 𝕄)) pays).symm)
  isplitl [Hat]; · iexact Hat
  iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit dealt at the start -/

theorem credit_bar (r : Fin 4) (c : Dev nD) : (Pipeline.launchCred (Bo r) c : sProp 𝕄) = cred (Bw r c) := by
  refine Pipeline.launchCred_of_sum (Bo r) (Bw r) (Fintype.sum_equiv (shift r).symm _ _ fun d => ?_) (fun d g hg => ?_) c
  · show Bo r d = Bw r (lo r d)
    unfold Bo Bw
    simp only [up_lo_iff]
  · unfold Bw at hg
    split at hg
    · by_contra hne
      exact hg (tallyAt_ne_cell (fun h => hne (congrArg Prod.fst h)) _ _)
    · exact absurd rfl hg
theorem credit_recv (r : Fin 4) (c : Dev nD) : (Pipeline.launchCred (Ro r) c : sProp 𝕄) = cred (Rw r c) := by
  refine Pipeline.launchCred_of_sum (Ro r) (Rw r) (Fintype.sum_equiv (shift r) _ _ fun d => ?_) (fun d g hg => ?_) c
  · show Ro r d = Rw r (hi r d)
    unfold Ro Rw
    simp only [dn_hi_iff]
  · unfold Rw at hg
    split at hg
    · by_contra hne
      exact hg (tallyAt_ne_cell (fun h => hne (congrArg Prod.fst h)) _ _)
    · exact absurd rfl hg

theorem dealt (c : Dev nD) : (Pipeline.launchCred O₀ c : sProp 𝕄) ⊢ creds c := by
  have h1 : (Pipeline.launchCred O₀ c : sProp 𝕄)
      = iprop((((((((Pipeline.launchCred (fun _ => 0) c ∗ cred (Rw 3 c)) ∗ cred (Rw 2 c)) ∗ cred (Rw 1 c)) ∗ cred (Rw 0 c)) ∗ cred (Bw 3 c)) ∗ cred (Bw 2 c)) ∗ cred (Bw 1 c)) ∗ cred (Bw 0 c)) := by
    rw [← credit_recv, ← credit_recv, ← credit_recv, ← credit_recv, ← credit_bar, ← credit_bar, ← credit_bar, ← credit_bar,
      ← Pipeline.launchCred_add, ← Pipeline.launchCred_add, ← Pipeline.launchCred_add, ← Pipeline.launchCred_add,
      ← Pipeline.launchCred_add, ← Pipeline.launchCred_add, ← Pipeline.launchCred_add, ← Pipeline.launchCred_add]
    rfl
  rw [h1]
  unfold creds
  iintro ⟨⟨⟨⟨⟨⟨⟨⟨-, H3⟩, H2⟩, H1⟩, H0⟩, J3⟩, J2⟩, J1⟩, J0⟩
  isplitl [J0 J1 J2 J3]
  · iapply (four_join (fun r => cred (Bw r c)))
    isplitl [J0]; · iexact J0
    isplitl [J1]; · iexact J1
    isplitl [J2]; · iexact J2
    iexact J3
  · iapply (four_join (fun r => cred (Rw r c)))
    isplitl [H0]; · iexact H0
    isplitl [H1]; · iexact H1
    isplitl [H2]; · iexact H2
    iexact H3

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (dealt (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ work ownPts curPts
  iintro ⟨Hs, -, ⟨H0, H1, ⟨%f2, H2⟩, ⟨%f3, H3⟩⟩⟩
  isplitl [Hs]; · iexact Hs
  isplitl [H0]; · iexact H0
  isplitl [H1]; · iexact H1
  isplitl [H2]; · iapply (s_split c f2); iexact H2
  iapply (r_split c f3); iexact H3

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ work zeros ownPts curPts
  iintro ⟨⟨H0, H1, H2, H3⟩, Hb, Hs, Hr⟩
  isplitl [Hb]; · iexact Hb
  isplitl [Hs Hr]
  · isplitl [Hs]; · iexact Hs
    iexact Hr
  isplitl [H0]; · iexact H0
  isplitl [H1]; · iexact H1
  isplitl [H2]; · iapply (s_join c); iexact H2
  iapply (r_join c); iexact H3

theorem waits (c : Dev nD) : (levAts L lv : sProp 𝕄) ⊢ Pipeline.cellsWaits cfgs (dats m ρ) () 0 c :=
  Pipeline.cellsWaits_intro cfgs (dats m ρ) () 0 c fun w s t => by
    refine mayWait_above c _ ?_
    have h0 : lv ((c : Thread nD τ), .dma (((cfgs 0).win w).sem s)) () = 0 := by
      show lvRole (role (((cfgs 0).win w).sem s)) = 0
      revert s; revert w; decide
    rw [h0]
    rcases t with ⟨_ | _, ht⟩
    · exact above_O₀ c
    · exact above_zero 0

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, on sixteen devices and for any float values, every weakly fair run ends, with each device's
    arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_scan m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- A device's block of `x` after the run is what it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Scan
end
-- ==== Proof.Value.Reference.lean ====
/-
# The reference at an index

The reference is a running sum down the rows: a window as tall as the array, padded above with zeros, summed. So entry `(r, j)` of its
result is the sum of entries `(0, j), …, (r, j)` of its argument.
-/
module

public import proofs.«01_k».proof.Proof.Gen.ReferenceIdeal.Run
public import Idealize.ShloMosaic.Lib.Pointwise

@[expose] public section

noncomputable section

namespace Cert.Running

open Idealize.ShloMosaic

/-- Column `j` of an array as a sequence, zero past the last row. -/
def col {R C : ℕ} (X : (⟨2, ![R, C]⟩ : Shape).Idx → EReal) (j : Fin C) (n : ℕ) : EReal :=
  if h : n < R then X (ix2 ⟨n, h⟩ j) else 0

theorem col_of_lt {R C : ℕ} (X : (⟨2, ![R, C]⟩ : Shape).Idx → EReal) (j : Fin C) {n : ℕ} (h : n < R) : col X j n = X (ix2 ⟨n, h⟩ j) :=
  dif_pos h

/-- A left fold that adds is the starting value and the sum. -/
theorem foldl_add {ι : Type} (t : ι → EReal) : ∀ (l : List ι) (z : EReal), l.foldl (fun r a => r + t a) z = z + (l.map t).sum
  | [], z => by simp
  | a :: l, z => by rw [List.foldl_cons, foldl_add t l, List.map_cons, List.sum_cons, add_assoc]

/-- Of the `R + 1` rows of the window that ends at row `r`, the rows before row zero hold nothing and the others are rows `0, …, r`. -/
theorem window_sum (f : ℕ → EReal) (R r : ℕ) (hr : r ≤ R) :
    ∑ a ∈ Finset.range (R + 1), (if R ≤ r + a then f (r + a - R) else 0) = ∑ n ∈ Finset.range (r + 1), f n := by
  obtain ⟨d, rfl⟩ := Nat.exists_eq_add_of_le hr
  rw [show r + d + 1 = d + (r + 1) by omega, Finset.sum_range_add]
  rw [Finset.sum_eq_zero fun a ha => if_neg (by have := Finset.mem_range.1 ha; omega), zero_add]
  refine Finset.sum_congr rfl fun a _ => ?_
  rw [if_pos (by omega)]
  congr 1
  omega

/-- A window of the array's height and one column, padded above by one row less, summed: entry `(r, j)` is the sum of the column's
    entries up to row `r`. -/
theorem window_rows {R C : ℕ} (X : (⟨2, ![R + 1, C]⟩ : Shape).Idx → EReal)
    (h : (⟨2, ![R + 1, C]⟩ : Shape).ReduceWindows (![R + 1, 1] : Fin 2 → ℕ) ![1, 1] ![R, 0] ![0, 0] ⟨2, ![R + 1, C]⟩)
    (r : Fin (R + 1)) (j : Fin C) :
    Ideal.hostReduceWindowAdd (![R + 1, 1] : Fin 2 → ℕ) ![1, 1] ![R, 0] ![0, 0] h X 0 (ix2 r j)
      = ∑ n ∈ Finset.range (r.val + 1), col X j n := by
  unfold Ideal.hostReduceWindowAdd Host.reduceWindow
  dsimp only
  rw [foldl_add, zero_add, ← Fin.sum_univ_def]
  have hr := r.isLt
  have hj := j.isLt
  refine ((Equiv.sum_comp (⟨2, ![R + 1, 1]⟩ : Shape).rowMajor _).symm).trans ?_
  simp only [Equiv.symm_apply_apply]
  rw [sum_idx2]
  refine Eq.trans (Finset.sum_congr rfl fun a _ => ?_)
    ((Fin.sum_univ_eq_sum_range (fun a => if R ≤ r.val + a then col X j (r.val + a - R) else 0) (R + 1)).trans
      (window_sum (col X j) R r.val (by omega)))
  rw [Fin.sum_univ_one]
  have ha := a.isLt
  split
  · next hin =>
    have h0 : R ≤ r.val * 1 + a.val ∧ r.val * 1 + a.val - R < R + 1 := hin 0
    rw [if_pos (by omega), col_of_lt X j (by omega)]
    congr 1
    funext b
    apply Fin.ext
    match b with
    | ⟨0, _⟩ => show r.val * 1 + a.val - R = r.val + a.val - R; omega
    | ⟨1, _⟩ => show j.val * 1 + 0 - 0 = j.val; omega
  · next hin =>
    rw [if_neg]
    intro hle
    refine hin fun b => ?_
    match b with
    | ⟨0, _⟩ => show R ≤ r.val * 1 + a.val ∧ r.val * 1 + a.val - R < R + 1; omega
    | ⟨1, _⟩ => show 0 ≤ j.val * 1 + 0 ∧ j.val * 1 + 0 - 0 < C; omega

/-- The reference's result at `(r, j)`. -/
theorem reference_at (X : FVec Ideal Cert.ReferenceIdeal.S32768x1024 .f32) (r : Fin 32768) (j : Fin 1024) :
    Host.reduceWindowAdd (F := Ideal) ![32768, 1] ![1, 1] ![32767, 0] ![0, 0] X
        (broadcastInDim Cert.ReferenceIdeal.S_ ![] Cert.ReferenceIdeal.Facts₀.bcast_S_S_ (constant (F := Ideal) Cert.ReferenceIdeal.S_ .f32 0x00000000#32))
        Cert.ReferenceIdeal.Facts₀.reduceWindows_S32768x1024_S32768x1024_w32768s1p32767_0_w1s1p0_0 Cert.ReferenceIdeal.Facts₀.h_S_ (ix2 r j)
      = ∑ n ∈ Finset.range (r.val + 1), col X j n := by
  unfold Host.reduceWindowAdd
  rw [Ideal.hostReduceWindowAdd_def]
  have hz : broadcastInDim Cert.ReferenceIdeal.S_ ![] Cert.ReferenceIdeal.Facts₀.bcast_S_S_
      (constant (F := Ideal) Cert.ReferenceIdeal.S_ .f32 0x00000000#32) (Shape.Idx.first Cert.ReferenceIdeal.Facts₀.h_S_) = (0 : EReal) := by
    pointwise
  rw [hz]
  exact window_rows (R := 32767) X _ r j

end Cert.Running

end
-- ==== Proof.Value.Payloads.lean ====
/-
# The kernel's arithmetic at an index, over the extended reals

A device's own row is the sum of its rows; a step of the scan adds two rows; and a block of the result is a triangle of ones times a block
of the rows, plus a row repeated down the block.
-/
module

public import proofs.«01_k».proof.Proof.Gen.KernelIdeal.Skeleton
public import proofs.«01_k».proof.Proof.Value.Reference
public import Idealize.ShloMosaic.Lib.WordCmp

@[expose] public section

noncomputable section

namespace Cert.Running

open Idealize.ShloMosaic Cert.KernelIdeal Cert.KernelIdeal.Gen

/-- A device's own row: the sum of its rows. -/
theorem pay2_at (x : FVec Ideal S2048x1024 .f32) (j : Fin 1024) :
    k0_pay2 (F := Ideal) x (ix2 0 j) = ∑ i : Fin 2048, x (ix2 i j) := by
  pointwise [k0_pay2, k0_pay1]

/-- Copying a row changes nothing. -/
theorem pay3_at (v : FVec Ideal S1x1024 .f32) (j : Fin 1024) : k0_pay3 (F := Ideal) v (ix2 0 j) = v (ix2 0 j) := by
  pointwise [k0_pay3]
theorem pay4_at (v : FVec Ideal S1x1024 .f32) (j : Fin 1024) : k0_pay4 (F := Ideal) v (ix2 0 j) = v (ix2 0 j) := by
  pointwise [k0_pay4]

/-- A step of the scan adds. -/
theorem pay5_at (a b : FVec Ideal S1x1024 .f32) (j : Fin 1024) :
    k0_pay5 (F := Ideal) a b (ix2 0 j) = a (ix2 0 j) + b (ix2 0 j) := by
  pointwise [k0_pay5]

/-- The rows narrowed are the rows. -/
theorem pay1_at (x : FVec Ideal S2048x1024 .f32) (i : Fin 2048) (j : Fin 1024) : k0_pay1 (F := Ideal) x (ix2 i j) = x (ix2 i j) := by
  pointwise [k0_pay1]

/-- The triangle of ones: one on and below the diagonal, zero above it. -/
theorem pay12_at (i k : Fin 256) : k0_pay12 (F := Ideal) (ix2 i k) = if k.val ≤ i.val then (1 : EReal) else 0 := by
  pointwise [k0_pay12]
  have hi := i.isLt
  have hk := k.isLt
  show (((BitVec.setWidth 32 (IntOp.cmpi CmpIPredicate.sge (BitVec.ofNat 32 i.val) (BitVec.ofNat 32 k.val))).toInt : ℝ) : EReal) = _
  rw [WordCmp.cmpi_sge_ofNat (by omega) (by omega)]
  by_cases h : k.val ≤ i.val <;> simp [h]

/-- A row of the triangle keeps the first terms of a sum. -/
theorem tri_sum (f : ℕ → EReal) (N n : ℕ) (h : n < N) :
    ∑ k ∈ Finset.range N, (if k ≤ n then (1 : EReal) else 0) * f k = ∑ k ∈ Finset.range (n + 1), f k := by
  obtain ⟨d, rfl⟩ := Nat.exists_eq_add_of_lt h
  rw [show n + d + 1 = (n + 1) + d by omega, Finset.sum_range_add,
    Finset.sum_eq_zero (s := Finset.range d) fun k _ => by rw [if_neg (by omega), zero_mul], add_zero]
  exact Finset.sum_congr rfl fun k hk => by
    have := Finset.mem_range.1 hk
    rw [if_pos (by omega), one_mul]

/-- The triangle times 256 of the rows, those from `o` on: entry `(i, j)` is the sum of the first `i + 1` of them. -/
theorem tri_at (o : ℕ) (h : S2048x1024.Slices ![o, 0] S256x1024) (ho : o + 256 ≤ 2048) (x : FVec Ideal S2048x1024 .bf16) (i : Fin 256)
    (j : Fin 1024) :
    matmul dot_S256x256_S256x1024_S256x1024_1_0_0_1_n_n none (k0_pay12 (F := Ideal)) (extractStridedSlice S256x1024 ![o, 0] x h)
        (constant S256x1024 .f32 0x00000000#32) (ix2 i j)
      = ∑ k ∈ Finset.range (i.val + 1), col x j (o + k) := by
  have hs : ∀ k : Fin 256, extractStridedSlice S256x1024 ![o, 0] x h (ix2 k j) = col x j (o + k.val) := fun k => by
    have hk := k.isLt
    rw [col_of_lt x j (by omega)]
    unfold extractStridedSlice
    congr 1
    funext a
    apply Fin.ext
    match a with
    | ⟨0, _⟩ => rfl
    | ⟨1, _⟩ => exact Nat.zero_add _
  generalize extractStridedSlice S256x1024 ![o, 0] x h = y at hs ⊢
  pointwise
  have hi := i.isLt
  rw [Finset.sum_congr rfl fun k _ => (by rw [pay12_at, hs k] :
    k0_pay12 (F := Ideal) (ix2 i k) * y (ix2 k j) = (if k.val ≤ i.val then (1 : EReal) else 0) * col x j (o + k.val))]
  rw [Fin.sum_univ_eq_sum_range (fun k => (if k ≤ i.val then (1 : EReal) else 0) * col x j (o + k)) 256]
  exact tri_sum (fun k => col x j (o + k)) 256 i.val hi

/-- A row repeated down a block. -/
theorem row_at (v : FVec Ideal S1x1024 .f32) (i : Fin 256) (j : Fin 1024) :
    broadcastTo S256x1024 v Facts₀.broadcasts_S1x1024_S256x1024 (ix2 i j) = v (ix2 0 j) := by
  pointwise

/-- The last row of a block. -/
theorem last_at (v : FVec Ideal S256x1024 .f32) (j : Fin 1024) :
    extractStridedSlice S1x1024 ![255, 0] v Facts₀.slices_S256x1024_o255_0_S1x1024 (ix2 0 j) = v (ix2 255 j) := by
  pointwise

variable (x : FVec Ideal S2048x1024 .bf16) (a b : FVec Ideal S1x1024 .f32) (w : FVec Ideal S256x1024 .f32) (i : Fin 256) (j : Fin 1024)

/-- The first block's carry is the running row less the device's own; each later block's is the last row of the block before. -/
theorem pay13_at : k0_pay13 (F := Ideal) x a b (ix2 i j)
    = (∑ k ∈ Finset.range (i.val + 1), col x j (0 + k)) + (a (ix2 0 j) - b (ix2 0 j)) :=
  congrArg₂ (· + ·) (tri_at 0 _ (by omega) x i j) (row_at _ i j)
theorem pay14_at : k0_pay14 (F := Ideal) x a b (ix2 i j)
    = (∑ k ∈ Finset.range (i.val + 1), col x j (256 + k)) + k0_pay13 (F := Ideal) x a b (ix2 255 j) :=
  congrArg₂ (· + ·) (tri_at 256 _ (by omega) x i j) ((row_at _ i j).trans (last_at _ j))
theorem pay15_at : k0_pay15 (F := Ideal) x a b (ix2 i j)
    = (∑ k ∈ Finset.range (i.val + 1), col x j (512 + k)) + k0_pay14 (F := Ideal) x a b (ix2 255 j) :=
  congrArg₂ (· + ·) (tri_at 512 _ (by omega) x i j) ((row_at _ i j).trans (last_at _ j))
theorem pay16_at : k0_pay16 (F := Ideal) x a b (ix2 i j)
    = (∑ k ∈ Finset.range (i.val + 1), col x j (768 + k)) + k0_pay15 (F := Ideal) x a b (ix2 255 j) :=
  congrArg₂ (· + ·) (tri_at 768 _ (by omega) x i j) ((row_at _ i j).trans (last_at _ j))
theorem pay17_at : k0_pay17 (F := Ideal) x k0_pay12 w (ix2 i j)
    = (∑ k ∈ Finset.range (i.val + 1), col x j (1024 + k)) + w (ix2 255 j) :=
  congrArg₂ (· + ·) (tri_at 1024 _ (by omega) x i j) ((row_at _ i j).trans (last_at _ j))
theorem pay18_at : k0_pay18 (F := Ideal) x k0_pay12 w (ix2 i j)
    = (∑ k ∈ Finset.range (i.val + 1), col x j (1280 + k)) + k0_pay17 (F := Ideal) x k0_pay12 w (ix2 255 j) :=
  congrArg₂ (· + ·) (tri_at 1280 _ (by omega) x i j) ((row_at _ i j).trans (last_at _ j))
theorem pay19_at : k0_pay19 (F := Ideal) x k0_pay12 w (ix2 i j)
    = (∑ k ∈ Finset.range (i.val + 1), col x j (1536 + k)) + k0_pay18 (F := Ideal) x k0_pay12 w (ix2 255 j) :=
  congrArg₂ (· + ·) (tri_at 1536 _ (by omega) x i j) ((row_at _ i j).trans (last_at _ j))
theorem pay20_at : k0_pay20 (F := Ideal) x k0_pay12 w (ix2 i j)
    = (∑ k ∈ Finset.range (i.val + 1), col x j (1792 + k)) + k0_pay19 (F := Ideal) x k0_pay12 w (ix2 255 j) :=
  congrArg₂ (· + ·) (tri_at 1792 _ (by omega) x i j) ((row_at _ i j).trans (last_at _ j))

end Cert.Running

end
-- ==== Proof.KernelIdeal.Value.lean ====
/-
# What a device's arrays hold after the run

The kernel runs at one grid point and each window is its whole array, so the block of `x` that the body reads is the device's array and
the result that the body leaves is the device's result.
-/
module

public import proofs.«01_k».proof.Proof.KernelIdeal.Launch
public import Idealize.ShloMosaic.Lib.Pipeline.ValueKit

@[expose] public section

noncomputable section

namespace Cert.KernelIdeal.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The block of `x` that the body reads is the device's array. -/
theorem xstg_eq (c : Dev nD) : xstg m ρ c = m ((c.tc : Thread nD τ).loc main_arg0) := by
  unfold xstg
  funext j
  show m ((c.tc : Thread nD τ).loc main_arg0) _ = _
  congr 1
  funext a
  apply Fin.ext
  show ((win0_0.rect (0 : Fin 1)).emb j a : Nat) = _
  exact win0_0.rect_emb_val_of_index_zero (0 : Fin 1) a rfl j

/-- A device's result after the run is what its body left. -/
theorem finalA_out (c : Dev nD) : finalA m ρ c (1 : Fin 2) = outAt m ρ c := by
  unfold finalA
  exact (dats m ρ 0 c).arrAt_eq_of_after_last (1 : Fin 2) t0_0 (by decide +kernel) _ (fun j => rfl)

end Cert.KernelIdeal.Scan
end
-- ==== Proof.Value.Result.lean ====
/-
# The kernel's result is the running sum, over the extended reals

The sixteen devices hold the rows of one array `X` in order. Device `c`'s own row is the sum of its 2048 rows. Before the exchange at
distance `2 ^ k` its running row is the sum of its own rows and those of the `2 ^ k - 1` devices below it, so after the four exchanges
it is the sum of every row up to the end of its own. Less the device's own row, whose entries are finite, that is the sum of the rows
below the device's: the carry into its first block. Each block adds its rows to its carry and hands its last row on.
-/
module

public import proofs.«01_k».proof.Proof.Value.Payloads
public import proofs.«01_k».proof.Proof.KernelIdeal.Value
public import proofs.«01_k».proof.Proof.Gen.KernelIdeal
public import proofs.«01_k».proof.Pre_finite_KernelIdeal
public import Idealize.ShloMosaic.Lib.Layout

@[expose] public section

noncomputable section

namespace Cert.Running

open Idealize.ShloMosaic Cert.KernelIdeal Cert.KernelIdeal.Gen Cert.KernelIdeal.Scan
open Idealize.ShloMosaic.TcCoe

/-! ## Finite entries -/

instance preFacts : Cert.Pre_finite_KernelIdeal.Facts := ⟨by decide⟩

/-- What the precondition says of an entry. -/
theorem finite_at (x : FVec Ideal S2048x1024 .f32) (h : Cert.Pre_finite_KernelIdeal.fn (F := Ideal) x = fun _ => 1#1) (i : S2048x1024.Idx) :
    x i ≠ ⊤ ∧ x i ≠ ⊥ := by
  have hi := congrFun h i
  pointwise [Cert.Pre_finite_KernelIdeal.fn] at hi
  by_cases ht : x i < Ideal.ofBits .f32 0x7F800000#32
  · by_cases hb : Ideal.ofBits .f32 0xFF800000#32 < x i
    · exact ⟨ne_top_of_lt ht, ne_bot_of_gt hb⟩
    · rw [decide_eq_false hb, decide_eq_true ht] at hi
      exact absurd hi (by decide)
  · rw [decide_eq_false ht] at hi
    by_cases hb : Ideal.ofBits .f32 0xFF800000#32 < x i
    · rw [decide_eq_true hb] at hi
      exact absurd hi (by decide)
    · rw [decide_eq_false hb] at hi
      exact absurd hi (by decide)

/-- A sum of finite entries is finite. -/
theorem sum_finite {ι : Type} (s : Finset ι) (f : ι → EReal) (h : ∀ i ∈ s, f i ≠ ⊤ ∧ f i ≠ ⊥) : ∃ r : ℝ, ∑ i ∈ s, f i = (r : EReal) := by
  classical
  induction s using Finset.induction_on with
  | empty => exact ⟨0, rfl⟩
  | insert a s ha ih =>
    obtain ⟨r, hr⟩ := ih fun i hi => h i (Finset.mem_insert_of_mem hi)
    obtain ⟨ht, hb⟩ := h a (Finset.mem_insert_self a s)
    exact ⟨(f a).toReal + r, by rw [Finset.sum_insert ha, hr, EReal.coe_add, EReal.coe_toReal ht hb]⟩

/-- Adding and then taking away a finite number changes nothing. -/
theorem add_sub_finite (a : EReal) (r : ℝ) : a + (r : EReal) - (r : EReal) = a := EReal.add_sub_cancel_right

/-! ## The blocks of one device -/

section Blocks

variable (x : FVec Ideal S2048x1024 .bf16) (a b : FVec Ideal S1x1024 .f32) (j : Fin 1024) (f : ℕ → EReal) (B : ℕ)
variable (hx : ∀ n, n < 2048 → col x j n = f (B + n))

include hx

/-- A block that starts `o` rows into the device's, with the sum of the rows above it as its carry. -/
theorem block_sum (o : ℕ) (ho : o + 256 ≤ 2048) (i : Fin 256) (z : EReal) (hz : z = ∑ n ∈ Finset.range (B + o), f n) :
    (∑ k ∈ Finset.range (i.val + 1), col x j (o + k)) + z = ∑ n ∈ Finset.range (B + o + (i.val + 1)), f n := by
  have hi := i.isLt
  have h : ∑ k ∈ Finset.range (i.val + 1), col x j (o + k) = ∑ k ∈ Finset.range (i.val + 1), f (B + o + k) :=
    Finset.sum_congr rfl fun k hk => by
      have := Finset.mem_range.1 hk
      rw [hx (o + k) (by omega), Nat.add_assoc]
  rw [h, hz, add_comm]
  exact (Finset.sum_range_add f (B + o) (i.val + 1)).symm

/-- A block whose carry is the last row of the block before it. -/
theorem block_next (o o' : ℕ) (ho : o + 256 ≤ 2048) (ho' : o' + 256 = o) (w : FVec Ideal S256x1024 .f32)
    (hw : ∀ i : Fin 256, w (ix2 i j) = ∑ n ∈ Finset.range (B + o' + (i.val + 1)), f n) (i : Fin 256) :
    (∑ k ∈ Finset.range (i.val + 1), col x j (o + k)) + w (ix2 255 j) = ∑ n ∈ Finset.range (B + o + (i.val + 1)), f n := by
  refine block_sum x j f B hx o ho i _ ((hw 255).trans ?_)
  have h255 : ((255 : Fin 256) : ℕ) = 255 := rfl
  rw [h255, show B + o' + (255 + 1) = B + o by omega]

section FirstFour

variable (hz : a (ix2 0 j) - b (ix2 0 j) = ∑ n ∈ Finset.range (B + 0), f n)

include hz

theorem blk0 (i : Fin 256) : k0_pay13 (F := Ideal) x a b (ix2 i j) = ∑ n ∈ Finset.range (B + 0 + (i.val + 1)), f n :=
  (pay13_at x a b i j).trans (block_sum x j f B hx 0 (by omega) i _ hz)
theorem blk1 (i : Fin 256) : k0_pay14 (F := Ideal) x a b (ix2 i j) = ∑ n ∈ Finset.range (B + 256 + (i.val + 1)), f n :=
  (pay14_at x a b i j).trans (block_next x j f B hx 256 0 (by omega) (by omega) _ (blk0 x a b j f B hx hz) i)
theorem blk2 (i : Fin 256) : k0_pay15 (F := Ideal) x a b (ix2 i j) = ∑ n ∈ Finset.range (B + 512 + (i.val + 1)), f n :=
  (pay15_at x a b i j).trans (block_next x j f B hx 512 256 (by omega) (by omega) _ (blk1 x a b j f B hx hz) i)
theorem blk3 (i : Fin 256) : k0_pay16 (F := Ideal) x a b (ix2 i j) = ∑ n ∈ Finset.range (B + 768 + (i.val + 1)), f n :=
  (pay16_at x a b i j).trans (block_next x j f B hx 768 512 (by omega) (by omega) _ (blk2 x a b j f B hx hz) i)

end FirstFour

section LastFour

variable (w : FVec Ideal S256x1024 .f32) (hw : ∀ i : Fin 256, w (ix2 i j) = ∑ n ∈ Finset.range (B + 768 + (i.val + 1)), f n)

include hw

theorem blk4 (i : Fin 256) : k0_pay17 (F := Ideal) x k0_pay12 w (ix2 i j) = ∑ n ∈ Finset.range (B + 1024 + (i.val + 1)), f n :=
  (pay17_at x w i j).trans (block_next x j f B hx 1024 768 (by omega) (by omega) _ hw i)
theorem blk5 (i : Fin 256) : k0_pay18 (F := Ideal) x k0_pay12 w (ix2 i j) = ∑ n ∈ Finset.range (B + 1280 + (i.val + 1)), f n :=
  (pay18_at x w i j).trans (block_next x j f B hx 1280 1024 (by omega) (by omega) _ (blk4 x j f B hx w hw) i)
theorem blk6 (i : Fin 256) : k0_pay19 (F := Ideal) x k0_pay12 w (ix2 i j) = ∑ n ∈ Finset.range (B + 1536 + (i.val + 1)), f n :=
  (pay19_at x w i j).trans (block_next x j f B hx 1536 1280 (by omega) (by omega) _ (blk5 x j f B hx w hw) i)
theorem blk7 (i : Fin 256) : k0_pay20 (F := Ideal) x k0_pay12 w (ix2 i j) = ∑ n ∈ Finset.range (B + 1792 + (i.val + 1)), f n :=
  (pay20_at x w i j).trans (block_next x j f B hx 1792 1536 (by omega) (by omega) _ (blk6 x j f B hx w hw) i)

end LastFour

end Blocks

/-! ## The scan -/

/-- The devices hold the rows of `X` in order. -/
def Held (m : (ℓ : Loc nD τ sig) → Buf (Elt Ideal) ℓ) (X : (⟨2, ![32768, 1024]⟩ : Shape).Idx → EReal) : Prop :=
  ∀ c : Dev nD, m ((c.tc : Thread nD τ).loc main_arg0) = Layout.block ⟨2, ![2048, 1024]⟩ ⟨2, ![32768, 1024]⟩ 0 16 c X

/-- A device's rows. -/
def rows (m : (ℓ : Loc nD τ sig) → Buf (Elt Ideal) ℓ) (ρ : Dev nD → PrngReg) (c : Dev nD) : FVec Ideal S2048x1024 .f32 := xstg m ρ c

/-- Every entry a device holds is finite. -/
def AllFinite (m : (ℓ : Loc nD τ sig) → Buf (Elt Ideal) ℓ) (ρ : Dev nD → PrngReg) : Prop :=
  ∀ (c : Dev nD) (i : S2048x1024.Idx), rows m ρ c i ≠ ⊤ ∧ rows m ρ c i ≠ ⊥

variable (m : (ℓ : Loc nD τ sig) → Buf (Elt Ideal) ℓ) (ρ : Dev nD → PrngReg)
variable (X : (⟨2, ![32768, 1024]⟩ : Shape).Idx → EReal)
variable (hX : Held m X)

include hX

/-- A device's row `i` is row `2048 c + i` of the whole. -/
theorem x_at (c : Dev nD) (i : Fin 2048) (j : Fin 1024) : rows m ρ c (ix2 i j) = col X j (2048 * c.val + i.val) := by
  have hc : c.val < 16 := c.isLt
  have hi := i.isLt
  rw [rows, xstg_eq, hX c, col_of_lt X j (by omega)]
  show X _ = X _
  congr 1
  funext a
  apply Fin.ext
  match a with
  | ⟨0, _⟩ => show c.val * 2048 + i.val = 2048 * c.val + i.val; omega
  | ⟨1, _⟩ => rfl

theorem col_x (c : Dev nD) (j : Fin 1024) {n : ℕ} (hn : n < 2048) : col (k0_pay1 (F := Ideal) (rows m ρ c)) j n = col X j (2048 * c.val + n) := by
  rw [col_of_lt _ j hn, pay1_at, x_at m ρ X hX]

/-- A device's own row is the sum of its rows. -/
theorem own_at (c : Dev nD) (j : Fin 1024) :
    (own m ρ c (ix2 0 j) : EReal) = ∑ n ∈ Finset.Ico (2048 * c.val) (2048 * (c.val + 1)), col X j n := by
  have h : (∑ i : Fin 2048, rows m ρ c (ix2 i j)) = ∑ i : Fin 2048, col X j (2048 * c.val + i.val) :=
    Finset.sum_congr rfl fun i _ => x_at m ρ X hX c i j
  refine (pay2_at (rows m ρ c) j).trans (h.trans ?_)
  rw [Fin.sum_univ_eq_sum_range (fun i => col X j (2048 * c.val + i)) 2048, Finset.sum_Ico_eq_sum_range,
    show 2048 * (c.val + 1) - 2048 * c.val = 2048 by omega]

/-- Before the exchange at distance `2 ^ k` a device's running row is the sum of the rows of the `2 ^ k` devices that end at it. -/
theorem cur_at (j : Fin 1024) (k : ℕ) (hk : k ≤ 4) : ∀ c : Dev nD,
    (cur m ρ k c (ix2 0 j) : EReal) = ∑ n ∈ Finset.Ico (2048 * (c.val + 1 - 2 ^ k)) (2048 * (c.val + 1)), col X j n := by
  induction k with
  | zero =>
    intro c
    refine (pay3_at (own m ρ c) j).trans ((own_at m ρ X hX c j).trans ?_)
    rw [pow_zero, Nat.add_sub_cancel]
  | succ k ih =>
    intro c
    have ih := ih (by omega)
    have hc : c.val < 16 := c.isLt
    have hk4 : k < 4 := by omega
    have h16 : 2 ^ k ≤ 8 := Nat.pow_le_pow_right (n := 2) (by decide) (show k ≤ 3 by omega)
    have hlo : 2 ^ k ≤ c.val → (lo ⟨k, hk4⟩ c).val = c.val - 2 ^ k := fun h => by
      show (c.val + (16 - 2 ^ k)) % 16 = _
      generalize 2 ^ k = p at h h16
      omega
    refine (congrFun (cur_succ m ρ ⟨k, hk4⟩ c) (ix2 0 j)).trans ?_
    by_cases h : Dn ⟨k, hk4⟩ c
    · have hd : 2 ^ k ≤ c.val := h
      rw [if_pos h]
      refine (pay5_at _ _ j).trans ?_
      refine (congrArg₂ (· + ·) (ih c) ((pay4_at _ j).trans (ih (lo ⟨k, hk4⟩ c)))).trans ?_
      rw [hlo hd, pow_succ]
      generalize 2 ^ k = p at hd
      rw [show c.val - p + 1 - p = c.val + 1 - p * 2 by omega, show c.val - p + 1 = c.val + 1 - p by omega]
      refine (add_comm _ _).trans ?_
      exact Finset.sum_Ico_consecutive _ (by omega) (by omega)
    · have hd : ¬2 ^ k ≤ c.val := h
      rw [if_neg h]
      refine (ih c).trans ?_
      rw [pow_succ]
      generalize 2 ^ k = p at hd
      rw [show c.val + 1 - p * 2 = c.val + 1 - p by omega]

variable (hfin : AllFinite m ρ)

include hfin

/-- The carry into a device's first block is the sum of the rows below the device's. -/
theorem carry_at (c : Dev nD) (j : Fin 1024) :
    (cur m ρ 4 c (ix2 0 j) : EReal) - (own m ρ c (ix2 0 j) : EReal) = ∑ n ∈ Finset.range (2048 * c.val + 0), col X j n := by
  have hc : c.val < 16 := c.isLt
  obtain ⟨r, hr⟩ := sum_finite Finset.univ (fun i : Fin 2048 => rows m ρ c (ix2 i j)) fun i _ => hfin c (ix2 i j)
  have ho : (own m ρ c (ix2 0 j) : EReal) = (r : EReal) := (pay2_at (rows m ρ c) j).trans hr
  have hs : (cur m ρ 4 c (ix2 0 j) : EReal) = (∑ n ∈ Finset.range (2048 * c.val + 0), col X j n) + (r : EReal) := by
    refine (cur_at m ρ X hX j 4 le_rfl c).trans ?_
    rw [← ho, own_at m ρ X hX, show c.val + 1 - 2 ^ 4 = 0 by omega, Nat.mul_zero, Nat.add_zero, Finset.range_eq_Ico]
    exact (Finset.sum_Ico_consecutive _ (Nat.zero_le _) (by omega)).symm
  rw [hs, ho, add_sub_finite]

/-- Every block of the result. -/
theorem blk_at (c : Dev nD) (j : Fin 1024) (b : Fin 8) (i : Fin 256) :
    blkVal m ρ c b (ix2 i j) = ∑ n ∈ Finset.range (2048 * c.val + 256 * b.val + (i.val + 1)), col X j n := by
  have hx : ∀ n, n < 2048 → col (k0_pay1 (F := Ideal) (rows m ρ c)) j n = col X j (2048 * c.val + n) := fun n hn => col_x m ρ X hX c j hn
  have hz := carry_at m ρ X hX hfin c j
  have h3 := blk3 (k0_pay1 (F := Ideal) (rows m ρ c)) (cur m ρ 4 c) (own m ρ c) j (col X j) (2048 * c.val) hx hz
  match b with
  | 0 => exact blk0 _ _ _ j _ _ hx hz i
  | 1 => exact blk1 _ _ _ j _ _ hx hz i
  | 2 => exact blk2 _ _ _ j _ _ hx hz i
  | 3 => exact h3 i
  | 4 => exact blk4 _ j _ _ hx _ h3 i
  | 5 => exact blk5 _ j _ _ hx _ h3 i
  | 6 => exact blk6 _ j _ _ hx _ h3 i
  | 7 => exact blk7 _ j _ _ hx _ h3 i

/-- Entry `(i, j)` of a device's result is the sum of column `j` down to row `2048 c + i` of the whole. -/
theorem out_at (c : Dev nD) (i : Fin 2048) (j : Fin 1024) :
    (outAt m ρ c (ix2 i j) : EReal) = ∑ n ∈ Finset.range (2048 * c.val + i.val + 1), col X j n := by
  refine (blk_at m ρ X hX hfin c j (blkOf (ix2 i j)) ⟨i.val % 256, Nat.mod_lt _ (by decide)⟩).trans ?_
  show ∑ n ∈ Finset.range (2048 * c.val + 256 * (i.val / 256) + (i.val % 256 + 1)), col X j n = _
  rw [show 2048 * c.val + 256 * (i.val / 256) + (i.val % 256 + 1) = 2048 * c.val + i.val + 1 by omega]

end Cert.Running

end
-- ==== Proof.lean ====
/-
# The proof of the claim

The launch of the kernel is proved for any float values (`Proof/Kernel/Launch.lean` and `Proof/KernelIdeal/Launch.lean`); what each
device's result is, over the extended reals, in `Proof/Value/Result.lean`; what the reference's result is in
`Proof/Value/Reference.lean`. Here the claims are read off them.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Result
public import proofs.«01_k».proof.Proof.Value.Reference

@[expose] public section

noncomputable section

namespace Cert.Proof

open Idealize.ShloMosaic Idealize.SL.Sem

instance preReferenceFacts : Cert.Pre_finite_ReferenceIdeal.Facts := ⟨by decide⟩

/-! ## The frames -/

theorem frame_Kernel : Cert.quiescent_Kernel := fun m g _ =>
  (θ_run _ _ _).mono (fun _ h => ⟨fun c => (h.1 c 0).trans (Cert.Kernel.Scan.finalA_x m g c), h.2⟩) (Cert.Kernel.Scan.run_main m g)

theorem frame_KernelIdeal : Cert.quiescent_KernelIdeal := fun m g _ =>
  (θ_run _ _ _).mono (fun _ h => ⟨fun c => (h.1 c 0).trans (Cert.KernelIdeal.Scan.finalA_x m g c), h.2⟩) (Cert.KernelIdeal.Scan.run_main m g)

/-- The reference has no semaphore, so there is no counter to read. -/
theorem no_counter (s : Idealize.ShloMosaic.GSem Cert.ReferenceIdeal.nD Cert.ReferenceIdeal.τ Cert.ReferenceIdeal.sig) : False := by
  rcases s with ⟨t, k⟩
  rcases k with k | k
  · exact k.elim0
  · exact k.elim0

theorem frame_ReferenceIdeal : Cert.quiescent_ReferenceIdeal := fun m g _ =>
  (θ_run _ _ _).mono (fun _ h => ⟨fun c => (h c).2, funext fun s => (no_counter s).elim⟩) (Cert.ReferenceIdeal.Value.run m g)

/-! ## The value -/

/-- Row `i` of device `c`'s part of an array is row `2048 c + i` of it. -/
theorem block_at (Y : FVec Ideal Cert.ReferenceIdeal.S32768x1024 .f32) (c : Dev Cert.KernelIdeal.nD) (i : Fin 2048) (j : Fin 1024)
    (r : Fin 32768) (hr : r.val = 2048 * c.val + i.val) :
    Layout.block ⟨2, ![2048, 1024]⟩ ⟨2, ![32768, 1024]⟩ 0 16 c Y (by decide) (ix2 i j) = Y (ix2 r j) := by
  show Y _ = Y _
  congr 1
  funext a
  apply Fin.ext
  match a with
  | ⟨0, _⟩ => show c.val * 2048 + i.val = r.val; omega
  | ⟨1, _⟩ => rfl

/-- Row `i` of device `c`'s part of the reference's result is the running sum down to row `2048 c + i`. -/
theorem part_at (X : FVec Ideal Cert.ReferenceIdeal.S32768x1024 .f32) (c : Dev Cert.KernelIdeal.nD) (i : Fin 2048) (j : Fin 1024) :
    Layout.block ⟨2, ![2048, 1024]⟩ ⟨2, ![32768, 1024]⟩ 0 16 c
        (Host.reduceWindowAdd (F := Ideal) ![32768, 1] ![1, 1] ![32767, 0] ![0, 0] X
          (broadcastInDim Cert.ReferenceIdeal.S_ ![] Cert.ReferenceIdeal.Facts₀.bcast_S_S_
            (constant (F := Ideal) Cert.ReferenceIdeal.S_ .f32 0x00000000#32))
          Cert.ReferenceIdeal.Facts₀.reduceWindows_S32768x1024_S32768x1024_w32768s1p32767_0_w1s1p0_0 Cert.ReferenceIdeal.Facts₀.h_S_)
        (by decide) (ix2 i j)
      = ∑ n ∈ Finset.range (2048 * c.val + i.val + 1), Cert.Running.col X j n := by
  have hc : c.val < 16 := c.isLt
  have hi := i.isLt
  have hr : 2048 * c.val + i.val < 32768 := by omega
  exact (block_at _ c i j ⟨2048 * c.val + i.val, hr⟩ rfl).trans (Cert.Running.reference_at X ⟨2048 * c.val + i.val, hr⟩ j)

theorem value : Cert.algebraic_KernelIdeal_ReferenceIdeal_pre_finite_KernelIdeal := by
  intro m g m' g' hpre hargs
  refine ⟨_, (θ_run _ _ _).mono (fun r h c => ⟨(h.1 c 1).trans ?_, (h.1 c 0).trans (Cert.KernelIdeal.Scan.finalA_x m g c)⟩)
      (Cert.KernelIdeal.Scan.run_main m g),
    (θ_run _ _ _).mono (fun r h => h 0) (Cert.ReferenceIdeal.Value.run m' g')⟩
  have hfin : Cert.Running.AllFinite m g := fun d i => by
    rw [Cert.Running.rows, Cert.KernelIdeal.Scan.xstg_eq]
    exact Cert.Running.finite_at _ (hpre d) i
  refine (Cert.KernelIdeal.Scan.finalA_out m g c).trans (funext fun i => ?_)
  rw [eq_ix2 i]
  refine (Cert.Running.out_at m g _ hargs hfin c _ _).trans ?_
  exact (part_at _ c (i 0) (i 1)).symm

theorem claim : Cert.Claim :=
  ⟨Cert.Kernel.Gen.facts, Cert.KernelIdeal.Gen.facts, Cert.ReferenceIdeal.Gen.facts, Cert.Running.preFacts, preReferenceFacts,
    frame_Kernel, frame_KernelIdeal, fun m g _ => frame_KernelIdeal m g trivial,
    frame_ReferenceIdeal, fun m g _ => frame_ReferenceIdeal m g trivial, trivial, value⟩

end Cert.Proof

end
